-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x20000x4 : Shape := ⟨3, ![1, 20000, 4]⟩
abbrev S1x64x4 : Shape := ⟨3, ![1, 64, 4]⟩
abbrev S1x64x21 : Shape := ⟨3, ![1, 64, 21]⟩
abbrev S20000x4 : Shape := ⟨2, ![20000, 4]⟩
abbrev S64x4 : Shape := ⟨2, ![64, 4]⟩
abbrev S20064x4 : Shape := ⟨2, ![20064, 4]⟩
abbrev S_ : Shape := ⟨0, ![]⟩
abbrev S20480x4 : Shape := ⟨2, ![20480, 4]⟩
abbrev S4x20480 : Shape := ⟨2, ![4, 20480]⟩
abbrev S4x160x128 : Shape := ⟨3, ![4, 160, 128]⟩
abbrev S64x21 : Shape := ⟨2, ![64, 21]⟩
abbrev S128x4 : Shape := ⟨2, ![128, 4]⟩
abbrev S128x21 : Shape := ⟨2, ![128, 21]⟩
abbrev S160x128 : Shape := ⟨2, ![160, 128]⟩
abbrev S128x1 : Shape := ⟨2, ![128, 1]⟩
abbrev S8x128 : Shape := ⟨2, ![8, 128]⟩
abbrev S1x128 : Shape := ⟨2, ![1, 128]⟩
abbrev S1x4 : Shape := ⟨2, ![1, 4]⟩
abbrev S1x21 : Shape := ⟨2, ![1, 21]⟩
abbrev S1x160 : Shape := ⟨2, ![1, 160]⟩
abbrev S160x1 : Shape := ⟨2, ![160, 1]⟩
abbrev S1x8x128 : Shape := ⟨3, ![1, 8, 128]⟩
abbrev S1x1 : Shape := ⟨2, ![1, 1]⟩
abbrev S128 : Shape := ⟨1, ![128]⟩
abbrev S1 : Shape := ⟨1, ![1]⟩
abbrev S128x160 : Shape := ⟨2, ![128, 160]⟩
abbrev S128x128 : Shape := ⟨2, ![128, 128]⟩
abbrev S1x160x128 : Shape := ⟨3, ![1, 160, 128]⟩
abbrev S1x64 : Shape := ⟨2, ![1, 64]⟩
abbrev S64x1 : Shape := ⟨2, ![64, 1]⟩
abbrev S64x64 : Shape := ⟨2, ![64, 64]⟩
abbrev S64 : Shape := ⟨1, ![64]⟩
abbrev S1x128x4 : Shape := ⟨3, ![1, 128, 4]⟩
abbrev S1x128x21 : Shape := ⟨3, ![1, 128, 21]⟩

abbrev nBuf : Space → Nat
  | .hbm => 19
  | .vmem => 10
  | .smem => 1
  | _ => 0

abbrev bufTy : (tb : Table) → Fin (tcTables nBuf tb) → BufTy
  | .hbm, ⟨0, _⟩ => ⟨S1x20000x4, .f32⟩
  | .hbm, ⟨1, _⟩ => ⟨S1x64x4, .f32⟩
  | .hbm, ⟨2, _⟩ => ⟨S1x64x21, .f32⟩
  | .hbm, ⟨3, _⟩ => ⟨S20000x4, .f32⟩
  | .hbm, ⟨4, _⟩ => ⟨S64x4, .f32⟩
  | .hbm, ⟨5, _⟩ => ⟨S20064x4, .f32⟩
  | .hbm, ⟨6, _⟩ => ⟨S_, .i32⟩
  | .hbm, ⟨7, _⟩ => ⟨S_, .f32⟩
  | .hbm, ⟨8, _⟩ => ⟨S20480x4, .f32⟩
  | .hbm, ⟨9, _⟩ => ⟨S4x20480, .f32⟩
  | .hbm, ⟨10, _⟩ => ⟨S4x160x128, .f32⟩
  | .hbm, ⟨11, _⟩ => ⟨S64x4, .f32⟩
  | .hbm, ⟨12, _⟩ => ⟨S64x21, .f32⟩
  | .hbm, ⟨13, _⟩ => ⟨S128x4, .f32⟩
  | .hbm, ⟨14, _⟩ => ⟨S128x21, .f32⟩
  | .hbm, ⟨15, _⟩ => ⟨S128x4, .f32⟩
  | .hbm, ⟨16, _⟩ => ⟨S1x128x4, .f32⟩
  | .hbm, ⟨17, _⟩ => ⟨S1x128x21, .f32⟩
  | .hbm, ⟨18, _⟩ => ⟨S1x128x4, .f32⟩
  | .local _ .vmem, ⟨0, _⟩ => ⟨S4x160x128, .f32⟩
  | .local _ .vmem, ⟨1, _⟩ => ⟨S64x4, .f32⟩
  | .local _ .vmem, ⟨2, _⟩ => ⟨S64x21, .f32⟩
  | .local _ .vmem, ⟨3, _⟩ => ⟨S128x4, .f32⟩
  | .local _ .vmem, ⟨4, _⟩ => ⟨S128x21, .f32⟩
  | .local _ .vmem, ⟨5, _⟩ => ⟨S128x4, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S128x1, .i32⟩
  | .local _ .smem, ⟨0, _⟩ => ⟨S64x4, .f32⟩
  | _, _ => ⟨S1x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c20_i32 : BitVec 32 := 20#32
  let v10 : BitVec 32 := Scalar.addi c0_i32 c20_i32
  let c1_i32 : BitVec 32 := 1#32
  ⟨c0_i32, v10, c1_i32⟩
def k0_off1 (k0_t1 : Fin k0_t1_loop.trips) : Fin 3 → Nat :=
  let c0_2880 : Index := 0#32
  let c0_i32 : BitVec 32 := 0#32
  let c1_i32 : BitVec 32 := 1#32
  let arg11 : BitVec 32 := Scf.iv c0_i32 c1_i32 k0_t1
  let c8_i32 : BitVec 32 := 8#32
  let v9483 : BitVec 32 := Scalar.muli arg11 c8_i32
  let v9484 : Index := Scalar.indexCast v9483
  let c0_2881 : Index := 0#32
  ![0, v9484.toNat, 0]
def k0_off2 (k0_t1 : Fin k0_t1_loop.trips) : Fin 3 → Nat :=
  let c1_2882 : Index := 1#32
  let c0_i32 : BitVec 32 := 0#32
  let c1_i32 : BitVec 32 := 1#32
  let arg11 : BitVec 32 := Scf.iv c0_i32 c1_i32 k0_t1
  let c8_i32 : BitVec 32 := 8#32
  let v9483 : BitVec 32 := Scalar.muli arg11 c8_i32
  let v9487 : Index := Scalar.indexCast v9483
  let c0_2883 : Index := 0#32
  ![1, v9487.toNat, 0]
def k0_off3 (k0_t1 : Fin k0_t1_loop.trips) : Fin 3 → Nat :=
  let c2_2884 : Index := 2#32
  let c0_i32 : BitVec 32 := 0#32
  let c1_i32 : BitVec 32 := 1#32
  let arg11 : BitVec 32 := Scf.iv c0_i32 c1_i32 k0_t1
  let c8_i32 : BitVec 32 := 8#32
  let v9483 : BitVec 32 := Scalar.muli arg11 c8_i32
  let v9490 : Index := Scalar.indexCast v9483
  let c0_2885 : Index := 0#32
  ![2, v9490.toNat, 0]
def k0_off4 (k0_t1 : Fin k0_t1_loop.trips) : Fin 3 → Nat :=
  let c3_2886 : Index := 3#32
  let c0_i32 : BitVec 32 := 0#32
  let c1_i32 : BitVec 32 := 1#32
  let arg11 : BitVec 32 := Scf.iv c0_i32 c1_i32 k0_t1
  let c8_i32 : BitVec 32 := 8#32
  let v9483 : BitVec 32 := Scalar.muli arg11 c8_i32
  let v9493 : Index := Scalar.indexCast v9483
  let c0_2887 : Index := 0#32
  ![3, v9493.toNat, 0]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v9483 : BitVec 32 := Scalar.muli arg11 c8_i32
  let v11959 : Index := Scalar.indexCast v9483
  let c0_3924 : Index := 0#32
  ![v11959.toNat, 0]
abbrev stage0_0 : Fin 1 → Memref sig .tc .smem S64x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x21 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1x20000x4 : Shape := ⟨3, ![1, 20000, 4]⟩
abbrev S1x64x4 : Shape := ⟨3, ![1, 64, 4]⟩
abbrev S1x64x21 : Shape := ⟨3, ![1, 64, 21]⟩
abbrev S1x20064x4 : Shape := ⟨3, ![1, 20064, 4]⟩
abbrev S20064x4 : Shape := ⟨2, ![20064, 4]⟩
abbrev S64x4 : Shape := ⟨2, ![64, 4]⟩
abbrev S64x21 : Shape := ⟨2, ![64, 21]⟩
abbrev S20064x1 : Shape := ⟨2, ![20064, 1]⟩
abbrev S20064 : Shape := ⟨1, ![20064]⟩
abbrev S_ : Shape := ⟨0, ![]⟩
abbrev S64x1 : Shape := ⟨2, ![64, 1]⟩
abbrev S64 : Shape := ⟨1, ![64]⟩
abbrev S1x64 : Shape := ⟨2, ![1, 64]⟩
abbrev S20064x64 : Shape := ⟨2, ![20064, 64]⟩
abbrev S1 : Shape := ⟨1, ![1]⟩
abbrev S1x1 : Shape := ⟨2, ![1, 1]⟩
abbrev S20064x21 : Shape := ⟨2, ![20064, 21]⟩
abbrev S128 : Shape := ⟨1, ![128]⟩
abbrev S128x1 : Shape := ⟨2, ![128, 1]⟩
abbrev S128x4 : Shape := ⟨2, ![128, 4]⟩
abbrev S128x21 : Shape := ⟨2, ![128, 21]⟩
abbrev S21 : Shape := ⟨1, ![21]⟩
abbrev S1x21 : Shape := ⟨2, ![1, 21]⟩
abbrev S1x128x4 : Shape := ⟨3, ![1, 128, 4]⟩
abbrev S1x128x21 : Shape := ⟨3, ![1, 128, 21]⟩

abbrev nBuf : Space → Nat
  | .hbm => 340
  | .vmem => 0
  | .smem => 0
  | _ => 0

abbrev hbmTy0_0 (i : Nat) : BufTy := match i % 128 with
  | 0 => ⟨S1x20000x4, .f32⟩
  | 1 => ⟨S1x64x4, .f32⟩
  | 2 => ⟨S1x64x21, .f32⟩
  | 3 => ⟨S1x20064x4, .f32⟩
  | 4 => ⟨S20064x4, .f32⟩
  | 5 => ⟨S64x4, .f32⟩
  | 6 => ⟨S64x21, .f32⟩
  | 7 => ⟨S20064x1, .f32⟩
  | 8 => ⟨S20064, .f32⟩
  | 9 => ⟨S20064x1, .f32⟩
  | 10 => ⟨S20064, .f32⟩
  | 11 => ⟨S20064, .f32⟩
  | 12 => ⟨S_, .f32⟩
  | 13 => ⟨S20064, .f32⟩
  | 14 => ⟨S20064, .f32⟩
  | 15 => ⟨S20064x1, .f32⟩
  | 16 => ⟨S20064, .f32⟩
  | 17 => ⟨S20064x1, .f32⟩
  | 18 => ⟨S20064, .f32⟩
  | 19 => ⟨S20064, .f32⟩
  | 20 => ⟨S_, .f32⟩
  | 21 => ⟨S20064, .f32⟩
  | 22 => ⟨S20064, .f32⟩
  | 23 => ⟨S20064, .f32⟩
  | 24 => ⟨S64x1, .f32⟩
  | 25 => ⟨S64, .f32⟩
  | 26 => ⟨S64x1, .f32⟩
  | 27 => ⟨S64, .f32⟩
  | 28 => ⟨S64, .f32⟩
  | 29 => ⟨S_, .f32⟩
  | 30 => ⟨S64, .f32⟩
  | 31 => ⟨S64, .f32⟩
  | 32 => ⟨S64x1, .f32⟩
  | 33 => ⟨S64, .f32⟩
  | 34 => ⟨S64x1, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S20064x1, .f32⟩
  | 42 => ⟨S20064, .f32⟩
  | 43 => ⟨S20064x1, .f32⟩
  | 44 => ⟨S64x1, .f32⟩
  | 45 => ⟨S64, .f32⟩
  | 46 => ⟨S1x64, .f32⟩
  | 47 => ⟨S20064x64, .f32⟩
  | 48 => ⟨S20064x64, .f32⟩
  | 49 => ⟨S20064x64, .f32⟩
  | 50 => ⟨S20064x1, .f32⟩
  | 51 => ⟨S20064, .f32⟩
  | 52 => ⟨S20064x1, .f32⟩
  | 53 => ⟨S64x1, .f32⟩
  | 54 => ⟨S64, .f32⟩
  | 55 => ⟨S1x64, .f32⟩
  | 56 => ⟨S20064x64, .f32⟩
  | 57 => ⟨S20064x64, .f32⟩
  | 58 => ⟨S20064x64, .f32⟩
  | 59 => ⟨S20064x1, .f32⟩
  | 60 => ⟨S20064, .f32⟩
  | 61 => ⟨S20064x1, .f32⟩
  | 62 => ⟨S64x1, .f32⟩
  | 63 => ⟨S64, .f32⟩
  | 64 => ⟨S1x64, .f32⟩
  | 65 => ⟨S20064x64, .f32⟩
  | 66 => ⟨S20064x64, .f32⟩
  | 67 => ⟨S20064x64, .f32⟩
  | 68 => ⟨S20064x1, .f32⟩
  | 69 => ⟨S20064, .f32⟩
  | 70 => ⟨S20064x1, .f32⟩
  | 71 => ⟨S64x1, .f32⟩
  | 72 => ⟨S64, .f32⟩
  | 73 => ⟨S1x64, .f32⟩
  | 74 => ⟨S20064x64, .f32⟩
  | 75 => ⟨S20064x64, .f32⟩
  | 76 => ⟨S20064x64, .f32⟩
  | 77 => ⟨S20064x64, .f32⟩
  | 78 => ⟨S_, .f32⟩
  | 79 => ⟨S20064x64, .f32⟩
  | 80 => ⟨S20064x64, .f32⟩
  | 81 => ⟨S_, .f32⟩
  | 82 => ⟨S20064x64, .f32⟩
  | 83 => ⟨S20064x64, .f32⟩
  | 84 => ⟨S20064x64, .f32⟩
  | 85 => ⟨S_, .f32⟩
  | 86 => ⟨S20064x64, .f32⟩
  | 87 => ⟨S20064x64, .f32⟩
  | 88 => ⟨S_, .f32⟩
  | 89 => ⟨S20064x64, .f32⟩
  | 90 => ⟨S20064x64, .f32⟩
  | 91 => ⟨S20064x64, .f32⟩
  | 92 => ⟨S20064x1, .f32⟩
  | 93 => ⟨S1x64, .f32⟩
  | 94 => ⟨S20064x64, .f32⟩
  | 95 => ⟨S20064x64, .f32⟩
  | 96 => ⟨S20064x64, .f32⟩
  | 97 => ⟨S20064x64, .f32⟩
  | 98 => ⟨S_, .f32⟩
  | 99 => ⟨S20064x64, .f32⟩
  | 100 => ⟨S20064x64, .f32⟩
  | 101 => ⟨S20064x64, .f32⟩
  | 102 => ⟨S20064x64, .i32⟩
  | 103 => ⟨S_, .f32⟩
  | 104 => ⟨S_, .i32⟩
  | 105 => ⟨S20064, .f32⟩
  | 106 => ⟨S20064, .i32⟩
  | 107 => ⟨S_, .f32⟩
  | 108 => ⟨S20064, .f32⟩
  | 109 => ⟨S_, .i32⟩
  | 110 => ⟨S20064, .i32⟩
  | 111 => ⟨S20064, .i1⟩
  | 112 => ⟨S_, .i32⟩
  | 113 => ⟨S20064, .i32⟩
  | 114 => ⟨S20064, .i32⟩
  | 115 => ⟨S20064, .i32⟩
  | 116 => ⟨S20064x1, .i32⟩
  | 117 => ⟨S1, .i32⟩
  | 118 => ⟨S_, .i32⟩
  | 119 => ⟨S20064x1, .i32⟩
  | 120 => ⟨S20064x1, .i1⟩
  | 121 => ⟨S1x1, .i32⟩
  | 122 => ⟨S20064x1, .i32⟩
  | 123 => ⟨S20064x1, .i1⟩
  | 124 => ⟨S20064x1, .i1⟩
  | 125 => ⟨S_, .i1⟩
  | 126 => ⟨S20064, .i1⟩
  | 127 => ⟨S20064x21, .f32⟩
  | _ => ⟨S1x20000x4, .f32⟩

abbrev hbmTy0_1 (i : Nat) : BufTy := match i % 128 with
  | 0 => ⟨S20064x21, .i1⟩
  | 1 => ⟨S_, .f32⟩
  | 2 => ⟨S20064x21, .f32⟩
  | 3 => ⟨S20064x21, .f32⟩
  | 4 => ⟨S_, .f32⟩
  | 5 => ⟨S20064, .f32⟩
  | 6 => ⟨S20064, .i1⟩
  | 7 => ⟨S_, .f32⟩
  | 8 => ⟨S20064, .f32⟩
  | 9 => ⟨S20064, .i1⟩
  | 10 => ⟨S_, .f32⟩
  | 11 => ⟨S20064, .f32⟩
  | 12 => ⟨S20064, .i1⟩
  | 13 => ⟨S20064, .i1⟩
  | 14 => ⟨S_, .f32⟩
  | 15 => ⟨S_, .f32⟩
  | 16 => ⟨S20064, .f32⟩
  | 17 => ⟨S20064, .f32⟩
  | 18 => ⟨S_, .f32⟩
  | 19 => ⟨S_, .f32⟩
  | 20 => ⟨S20064, .f32⟩
  | 21 => ⟨S20064, .f32⟩
  | 22 => ⟨S64, .f32⟩
  | 23 => ⟨S64, .i32⟩
  | 24 => ⟨S64, .f32⟩
  | 25 => ⟨S64, .i32⟩
  | 26 => ⟨S128, .i32⟩
  | 27 => ⟨S_, .i32⟩
  | 28 => ⟨S128, .i32⟩
  | 29 => ⟨S128, .i1⟩
  | 30 => ⟨S_, .i32⟩
  | 31 => ⟨S128, .i32⟩
  | 32 => ⟨S128, .i32⟩
  | 33 => ⟨S128, .i32⟩
  | 34 => ⟨S128x1, .i32⟩
  | 35 => ⟨S1, .i32⟩
  | 36 => ⟨S_, .i32⟩
  | 37 => ⟨S128x1, .i32⟩
  | 38 => ⟨S128x1, .i1⟩
  | 39 => ⟨S1x1, .i32⟩
  | 40 => ⟨S128x1, .i32⟩
  | 41 => ⟨S128x1, .i1⟩
  | 42 => ⟨S128x1, .i1⟩
  | 43 => ⟨S_, .i1⟩
  | 44 => ⟨S128, .i1⟩
  | 45 => ⟨S128x4, .f32⟩
  | 46 => ⟨S128x4, .i1⟩
  | 47 => ⟨S_, .f32⟩
  | 48 => ⟨S128x4, .f32⟩
  | 49 => ⟨S128x4, .f32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S1, .i32⟩
  | 59 => ⟨S_, .i32⟩
  | 60 => ⟨S128x1, .i32⟩
  | 61 => ⟨S128x1, .i1⟩
  | 62 => ⟨S1x1, .i32⟩
  | 63 => ⟨S128x1, .i32⟩
  | 64 => ⟨S128x1, .i1⟩
  | 65 => ⟨S128x1, .i1⟩
  | 66 => ⟨S_, .i1⟩
  | 67 => ⟨S128, .i1⟩
  | 68 => ⟨S128x21, .f32⟩
  | 69 => ⟨S128x21, .i1⟩
  | 70 => ⟨S_, .f32⟩
  | 71 => ⟨S128x21, .f32⟩
  | 72 => ⟨S128x21, .f32⟩
  | 73 => ⟨S128, .i32⟩
  | 74 => ⟨S_, .i32⟩
  | 75 => ⟨S128, .i32⟩
  | 76 => ⟨S128, .i1⟩
  | 77 => ⟨S_, .i32⟩
  | 78 => ⟨S1, .i32⟩
  | 79 => ⟨S21, .i32⟩
  | 80 => ⟨S1, .i32⟩
  | 81 => ⟨S21, .i32⟩
  | 82 => ⟨S21, .i1⟩
  | 83 => ⟨S21, .f32⟩
  | 84 => ⟨S128x1, .i1⟩
  | 85 => ⟨S1x21, .f32⟩
  | 86 => ⟨S128x21, .i1⟩
  | 87 => ⟨S128x21, .f32⟩
  | 88 => ⟨S128x21, .f32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S1, .i32⟩
  | 98 => ⟨S_, .i32⟩
  | 99 => ⟨S128x1, .i32⟩
  | 100 => ⟨S128x1, .i1⟩
  | 101 => ⟨S1x1, .i32⟩
  | 102 => ⟨S128x1, .i32⟩
  | 103 => ⟨S128x1, .i1⟩
  | 104 => ⟨S128x1, .i1⟩
  | 105 => ⟨S_, .i1⟩
  | 106 => ⟨S128, .i1⟩
  | 107 => ⟨S128, .i32⟩
  | 108 => ⟨S_, .i32⟩
  | 109 => ⟨S128, .i32⟩
  | 110 => ⟨S128, .i32⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S1, .i32⟩
  | 120 => ⟨S_, .i32⟩
  | 121 => ⟨S128x1, .i32⟩
  | 122 => ⟨S128x1, .i1⟩
  | 123 => ⟨S1x1, .i32⟩
  | 124 => ⟨S128x1, .i32⟩
  | 125 => ⟨S128x1, .i1⟩
  | 126 => ⟨S128x1, .i1⟩
  | 127 => ⟨S_, .i1⟩
  | _ => ⟨S1x20000x4, .f32⟩

abbrev hbmTy0_2 (i : Nat) : BufTy := match i % 128 with
  | 0 => ⟨S128, .i1⟩
  | 1 => ⟨S128x4, .f32⟩
  | 2 => ⟨S128x4, .i1⟩
  | 3 => ⟨S_, .f32⟩
  | 4 => ⟨S128x4, .f32⟩
  | 5 => ⟨S128x4, .f32⟩
  | 6 => ⟨S128x1, .f32⟩
  | 7 => ⟨S128, .f32⟩
  | 8 => ⟨S128x1, .f32⟩
  | 9 => ⟨S128, .f32⟩
  | 10 => ⟨S128, .f32⟩
  | 11 => ⟨S_, .f32⟩
  | 12 => ⟨S128, .f32⟩
  | 13 => ⟨S128, .f32⟩
  | 14 => ⟨S128x1, .f32⟩
  | 15 => ⟨S128, .f32⟩
  | 16 => ⟨S128x1, .f32⟩
  | 17 => ⟨S128, .f32⟩
  | 18 => ⟨S128, .f32⟩
  | 19 => ⟨S_, .f32⟩
  | 20 => ⟨S128, .f32⟩
  | 21 => ⟨S128, .f32⟩
  | 22 => ⟨S128x1, .f32⟩
  | 23 => ⟨S128, .f32⟩
  | 24 => ⟨S_, .f32⟩
  | 25 => ⟨S128, .f32⟩
  | 26 => ⟨S128, .f32⟩
  | 27 => ⟨S128, .f32⟩
  | 28 => ⟨S128x1, .f32⟩
  | 29 => ⟨S128, .f32⟩
  | 30 => ⟨S_, .f32⟩
  | 31 => ⟨S128, .f32⟩
  | 32 => ⟨S128, .f32⟩
  | 33 => ⟨S128, .f32⟩
  | 34 => ⟨S128x1, .f32⟩
  | 35 => ⟨S128, .f32⟩
  | 36 => ⟨S128x1, .f32⟩
  | 37 => ⟨S128, .f32⟩
  | 38 => ⟨S128, .f32⟩
  | 39 => ⟨S_, .f32⟩
  | 40 => ⟨S128, .f32⟩
  | 41 => ⟨S128, .f32⟩
  | 42 => ⟨S128x1, .f32⟩
  | 43 => ⟨S128, .f32⟩
  | 44 => ⟨S128x1, .f32⟩
  | 45 => ⟨S128, .f32⟩
  | 46 => ⟨S128, .f32⟩
  | 47 => ⟨S_, .f32⟩
  | 48 => ⟨S128, .f32⟩
  | 49 => ⟨S128, .f32⟩
  | 50 => ⟨S128x1, .f32⟩
  | 51 => ⟨S128, .f32⟩
  | 52 => ⟨S_, .f32⟩
  | 53 => ⟨S128, .f32⟩
  | 54 => ⟨S128, .f32⟩
  | 55 => ⟨S128, .f32⟩
  | 56 => ⟨S128x1, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S128, .f32⟩
  | 64 => ⟨S128, .f32⟩
  | 65 => ⟨S128, .f32⟩
  | 66 => ⟨S128, .f32⟩
  | 67 => ⟨S128, .f32⟩
  | 68 => ⟨S128, .f32⟩
  | 69 => ⟨S128, .f32⟩
  | 70 => ⟨S128x1, .f32⟩
  | 71 => ⟨S128x1, .f32⟩
  | 72 => ⟨S128x1, .f32⟩
  | 73 => ⟨S128x1, .f32⟩
  | 74 => ⟨S128x4, .f32⟩
  | 75 => ⟨S128x1, .i1⟩
  | 76 => ⟨S_, .f32⟩
  | 77 => ⟨S_, .f32⟩
  | 78 => ⟨S128x4, .i1⟩
  | 79 => ⟨S128x4, .f32⟩
  | 80 => ⟨S128x4, .f32⟩
  | 81 => ⟨S1x128x4, .f32⟩
  | 82 => ⟨S1x128x21, .f32⟩
  | 83 => ⟨S1x128x4, .f32⟩
  | _ => ⟨S1x20000x4, .f32⟩

abbrev hbmTy (i : Nat) : BufTy := match i / 128 with
  | 0 => hbmTy0_0 i
  | 1 => hbmTy0_1 i
  | 2 => hbmTy0_2 i
  | _ => ⟨S1x20000x4, .f32⟩

abbrev bufTy : (tb : Table) → Fin (tcTables nBuf tb) → BufTy
  | .hbm, ⟨i, _⟩ => hbmTy i
  | _, _ => ⟨S1x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_cst_3 : Ref sig .tc := ⟨.hbm, 78, rfl⟩
abbrev main_v71 : Ref sig .tc := ⟨.hbm, 79, rfl⟩
abbrev main_v72 : Ref sig .tc := ⟨.hbm, 80, rfl⟩
abbrev main_cst_4 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_5 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_call0_v0 : Ref sig .tc := ⟨.hbm, 102, rfl⟩
abbrev main_call0_cst : Ref sig .tc := ⟨.hbm, 103, rfl⟩
abbrev main_call0_c : Ref sig .tc := ⟨.hbm, 104, rfl⟩
abbrev main_call0_v1_0 : Ref sig .tc := ⟨.hbm, 105, rfl⟩
abbrev main_v90 : Ref sig .tc := ⟨.hbm, 106, rfl⟩
abbrev main_cst_8 : Ref sig .tc := ⟨.hbm, 107, rfl⟩
abbrev main_v91 : Ref sig .tc := ⟨.hbm, 108, rfl⟩
abbrev main_call1_c : Ref sig .tc := ⟨.hbm, 109, rfl⟩
abbrev main_call1_v0 : Ref sig .tc := ⟨.hbm, 110, rfl⟩
abbrev main_call1_v1 : Ref sig .tc := ⟨.hbm, 111, rfl⟩
abbrev main_call1_c_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_c_1 : Ref sig .tc := ⟨.hbm, 117, rfl⟩
abbrev main_call1_c_2 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_call1_c_3 : Ref sig .tc := ⟨.hbm, 125, rfl⟩
abbrev main_call1_v12 : Ref sig .tc := ⟨.hbm, 126, rfl⟩
abbrev main_call1_v13 : Ref sig .tc := ⟨.hbm, 127, rfl⟩
abbrev main_call1_v14 : Ref sig .tc := ⟨.hbm, 128, rfl⟩
abbrev main_call1_cst : Ref sig .tc := ⟨.hbm, 129, rfl⟩
abbrev main_call1_v15 : Ref sig .tc := ⟨.hbm, 130, rfl⟩
abbrev main_v92 : Ref sig .tc := ⟨.hbm, 131, rfl⟩
abbrev main_cst_9 : Ref sig .tc := ⟨.hbm, 132, rfl⟩
abbrev main_v93 : Ref sig .tc := ⟨.hbm, 133, rfl⟩
abbrev main_v94 : Ref sig .tc := ⟨.hbm, 134, rfl⟩
abbrev main_cst_10 : Ref sig .tc := ⟨.hbm, 135, rfl⟩
abbrev main_v95 : Ref sig .tc := ⟨.hbm, 136, rfl⟩
abbrev main_v96 : Ref sig .tc := ⟨.hbm, 137, rfl⟩
abbrev main_cst_11 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_12 : Ref sig .tc := ⟨.hbm, 142, rfl⟩
abbrev main_call2_v0 : Ref sig .tc := ⟨.hbm, 143, rfl⟩
abbrev main_call2_v1 : Ref sig .tc := ⟨.hbm, 144, rfl⟩
abbrev main_v100 : Ref sig .tc := ⟨.hbm, 145, rfl⟩
abbrev main_cst_13 : Ref sig .tc := ⟨.hbm, 146, rfl⟩
abbrev main_call3_v0 : Ref sig .tc := ⟨.hbm, 147, rfl⟩
abbrev main_call3_v1 : Ref sig .tc := ⟨.hbm, 148, rfl⟩
abbrev main_v101 : Ref sig .tc := ⟨.hbm, 149, rfl⟩
abbrev main_values : Ref sig .tc := ⟨.hbm, 150, rfl⟩
abbrev main_indices : Ref sig .tc := ⟨.hbm, 151, rfl⟩
abbrev main_values_14 : Ref sig .tc := ⟨.hbm, 152, rfl⟩
abbrev main_indices_15 : Ref sig .tc := ⟨.hbm, 153, rfl⟩
abbrev main_v102 : Ref sig .tc := ⟨.hbm, 154, rfl⟩
abbrev main_call4_c : Ref sig .tc := ⟨.hbm, 155, rfl⟩
abbrev main_call4_v0 : Ref sig .tc := ⟨.hbm, 156, rfl⟩
abbrev main_call4_v1 : Ref sig .tc := ⟨.hbm, 157, rfl⟩
abbrev main_call4_c_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_c_1 : Ref sig .tc := ⟨.hbm, 163, rfl⟩
abbrev main_call4_c_2 : Ref sig .tc := ⟨.hbm, 164, rfl⟩
abbrev main_call4_v6 : Ref sig .tc := ⟨.hbm, 165, rfl⟩
abbrev main_call4_v7 : Ref sig .tc := ⟨.hbm, 166, rfl⟩
abbrev main_call4_v8 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_c_3 : Ref sig .tc := ⟨.hbm, 171, rfl⟩
abbrev main_call4_v12 : Ref sig .tc := ⟨.hbm, 172, rfl⟩
abbrev main_call4_v13 : Ref sig .tc := ⟨.hbm, 173, rfl⟩
abbrev main_call4_v14 : Ref sig .tc := ⟨.hbm, 174, rfl⟩
abbrev main_call4_cst : Ref sig .tc := ⟨.hbm, 175, rfl⟩
abbrev main_call4_v15 : Ref sig .tc := ⟨.hbm, 176, rfl⟩
abbrev main_v103 : Ref sig .tc := ⟨.hbm, 177, rfl⟩
abbrev main_call5_c : Ref sig .tc := ⟨.hbm, 178, rfl⟩
abbrev main_call5_v0 : Ref sig .tc := ⟨.hbm, 179, rfl⟩
abbrev main_call5_v1 : Ref sig .tc := ⟨.hbm, 180, rfl⟩
abbrev main_call5_c_0 : Ref sig .tc := ⟨.hbm, 181, rfl⟩
abbrev main_call5_v2 : Ref sig .tc := ⟨.hbm, 182, rfl⟩
abbrev main_call5_v3 : Ref sig .tc := ⟨.hbm, 183, rfl⟩
abbrev main_call5_v4 : Ref sig .tc := ⟨.hbm, 184, rfl⟩
abbrev main_call5_v5 : Ref sig .tc := ⟨.hbm, 185, rfl⟩
abbrev main_call5_c_1 : Ref sig .tc := ⟨.hbm, 186, rfl⟩
abbrev main_call5_c_2 : Ref sig .tc := ⟨.hbm, 187, rfl⟩
abbrev main_call5_v6 : Ref sig .tc := ⟨.hbm, 188, rfl⟩
abbrev main_call5_v7 : Ref sig .tc := ⟨.hbm, 189, rfl⟩
abbrev main_call5_v8 : Ref sig .tc := ⟨.hbm, 190, rfl⟩
abbrev main_call5_v9 : Ref sig .tc := ⟨.hbm, 191, rfl⟩
abbrev main_call5_v10 : Ref sig .tc := ⟨.hbm, 192, rfl⟩
abbrev main_call5_v11 : Ref sig .tc := ⟨.hbm, 193, rfl⟩
abbrev main_call5_c_3 : Ref sig .tc := ⟨.hbm, 194, rfl⟩
abbrev main_call5_v12 : Ref sig .tc := ⟨.hbm, 195, rfl⟩
abbrev main_call5_v13 : Ref sig .tc := ⟨.hbm, 196, rfl⟩
abbrev main_call5_v14 : Ref sig .tc := ⟨.hbm, 197, rfl⟩
abbrev main_call5_cst : Ref sig .tc := ⟨.hbm, 198, rfl⟩
abbrev main_call5_v15 : Ref sig .tc := ⟨.hbm, 199, rfl⟩
abbrev main_v104 : Ref sig .tc := ⟨.hbm, 200, rfl⟩
abbrev main_v105 : Ref sig .tc := ⟨.hbm, 201, rfl⟩
abbrev main_c : Ref sig .tc := ⟨.hbm, 202, rfl⟩
abbrev main_v106 : Ref sig .tc := ⟨.hbm, 203, rfl⟩
abbrev main_v107 : Ref sig .tc := ⟨.hbm, 204, rfl⟩
abbrev main_c_16 : Ref sig .tc := ⟨.hbm, 205, rfl⟩
abbrev main_call6_v0 : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_call7_v0 : Ref sig .tc := ⟨.hbm, 214, rfl⟩
abbrev main_call7_v1 : Ref sig .tc := ⟨.hbm, 215, rfl⟩
abbrev main_v111 : Ref sig .tc := ⟨.hbm, 216, rfl⟩
abbrev main_call8_c : Ref sig .tc := ⟨.hbm, 217, rfl⟩
abbrev main_call8_v0 : Ref sig .tc := ⟨.hbm, 218, rfl⟩
abbrev main_call8_v1 : Ref sig .tc := ⟨.hbm, 219, rfl⟩
abbrev main_call8_c_0 : Ref sig .tc := ⟨.hbm, 220, rfl⟩
abbrev main_call8_v2 : Ref sig .tc := ⟨.hbm, 221, rfl⟩
abbrev main_call8_v3 : Ref sig .tc := ⟨.hbm, 222, rfl⟩
abbrev main_call8_v4 : Ref sig .tc := ⟨.hbm, 223, rfl⟩
abbrev main_call8_v5 : Ref sig .tc := ⟨.hbm, 224, rfl⟩
abbrev main_call8_c_1 : Ref sig .tc := ⟨.hbm, 225, rfl⟩
abbrev main_call8_c_2 : Ref sig .tc := ⟨.hbm, 226, rfl⟩
abbrev main_call8_v6 : Ref sig .tc := ⟨.hbm, 227, rfl⟩
abbrev main_call8_v7 : Ref sig .tc := ⟨.hbm, 228, rfl⟩
abbrev main_call8_v8 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_c_3 : Ref sig .tc := ⟨.hbm, 233, rfl⟩
abbrev main_call8_v12 : Ref sig .tc := ⟨.hbm, 234, rfl⟩
abbrev main_call8_v13 : Ref sig .tc := ⟨.hbm, 235, rfl⟩
abbrev main_call8_c_4 : Ref sig .tc := ⟨.hbm, 236, rfl⟩
abbrev main_call8_v14 : Ref sig .tc := ⟨.hbm, 237, rfl⟩
abbrev main_v112 : Ref sig .tc := ⟨.hbm, 238, rfl⟩
abbrev main_call9_c : Ref sig .tc := ⟨.hbm, 239, rfl⟩
abbrev main_call9_v0 : Ref sig .tc := ⟨.hbm, 240, rfl⟩
abbrev main_call9_v1 : Ref sig .tc := ⟨.hbm, 241, rfl⟩
abbrev main_call9_c_0 : Ref sig .tc := ⟨.hbm, 242, rfl⟩
abbrev main_call9_v2 : Ref sig .tc := ⟨.hbm, 243, rfl⟩
abbrev main_call9_v3 : Ref sig .tc := ⟨.hbm, 244, rfl⟩
abbrev main_call9_v4 : Ref sig .tc := ⟨.hbm, 245, rfl⟩
abbrev main_call9_v5 : Ref sig .tc := ⟨.hbm, 246, rfl⟩
abbrev main_call9_c_1 : Ref sig .tc := ⟨.hbm, 247, rfl⟩
abbrev main_call9_c_2 : Ref sig .tc := ⟨.hbm, 248, rfl⟩
abbrev main_call9_v6 : Ref sig .tc := ⟨.hbm, 249, rfl⟩
abbrev main_call9_v7 : Ref sig .tc := ⟨.hbm, 250, rfl⟩
abbrev main_call9_v8 : Ref sig .tc := ⟨.hbm, 251, rfl⟩
abbrev main_call9_v9 : Ref sig .tc := ⟨.hbm, 252, rfl⟩
abbrev main_call9_v10 : Ref sig .tc := ⟨.hbm, 253, rfl⟩
abbrev main_call9_v11 : Ref sig .tc := ⟨.hbm, 254, rfl⟩
abbrev main_call9_c_3 : Ref sig .tc := ⟨.hbm, 255, rfl⟩
abbrev main_call9_v12 : Ref sig .tc := ⟨.hbm, 256, rfl⟩
abbrev main_call9_v13 : Ref sig .tc := ⟨.hbm, 257, rfl⟩
abbrev main_call9_v14 : Ref sig .tc := ⟨.hbm, 258, rfl⟩
abbrev main_call9_cst : Ref sig .tc := ⟨.hbm, 259, rfl⟩
abbrev main_call9_v15 : Ref sig .tc := ⟨.hbm, 260, rfl⟩
abbrev main_v113 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_v117 : Ref sig .tc := ⟨.hbm, 265, rfl⟩
abbrev main_v118 : Ref sig .tc := ⟨.hbm, 266, rfl⟩
abbrev main_cst_17 : Ref sig .tc := ⟨.hbm, 267, rfl⟩
abbrev main_v119 : Ref sig .tc := ⟨.hbm, 268, rfl⟩
abbrev main_v120 : Ref sig .tc := ⟨.hbm, 269, rfl⟩
abbrev main_v121 : Ref sig .tc := ⟨.hbm, 270, rfl⟩
abbrev main_v122 : Ref sig .tc := ⟨.hbm, 271, rfl⟩
abbrev main_v123 : Ref sig .tc := ⟨.hbm, 272, rfl⟩
abbrev main_v124 : Ref sig .tc := ⟨.hbm, 273, rfl⟩
abbrev main_v125 : Ref sig .tc := ⟨.hbm, 274, rfl⟩
abbrev main_cst_18 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_v129 : Ref sig .tc := ⟨.hbm, 279, rfl⟩
abbrev main_cst_19 : Ref sig .tc := ⟨.hbm, 280, rfl⟩
abbrev main_v130 : Ref sig .tc := ⟨.hbm, 281, rfl⟩
abbrev main_v131 : Ref sig .tc := ⟨.hbm, 282, rfl⟩
abbrev main_v132 : Ref sig .tc := ⟨.hbm, 283, rfl⟩
abbrev main_v133 : Ref sig .tc := ⟨.hbm, 284, rfl⟩
abbrev main_v134 : Ref sig .tc := ⟨.hbm, 285, rfl⟩
abbrev main_cst_20 : Ref sig .tc := ⟨.hbm, 286, rfl⟩
abbrev main_v135 : Ref sig .tc := ⟨.hbm, 287, rfl⟩
abbrev main_v136 : Ref sig .tc := ⟨.hbm, 288, rfl⟩
abbrev main_v137 : Ref sig .tc := ⟨.hbm, 289, rfl⟩
abbrev main_v138 : Ref sig .tc := ⟨.hbm, 290, rfl⟩
abbrev main_v139 : Ref sig .tc := ⟨.hbm, 291, rfl⟩
abbrev main_v140 : Ref sig .tc := ⟨.hbm, 292, rfl⟩
abbrev main_v141 : Ref sig .tc := ⟨.hbm, 293, rfl⟩
abbrev main_v142 : Ref sig .tc := ⟨.hbm, 294, rfl⟩
abbrev main_cst_21 : Ref sig .tc := ⟨.hbm, 295, rfl⟩
abbrev main_v143 : Ref sig .tc := ⟨.hbm, 296, rfl⟩
abbrev main_v144 : Ref sig .tc := ⟨.hbm, 297, rfl⟩
abbrev main_v145 : Ref sig .tc := ⟨.hbm, 298, rfl⟩
abbrev main_v146 : Ref sig .tc := ⟨.hbm, 299, rfl⟩
abbrev main_v147 : Ref sig .tc := ⟨.hbm, 300, rfl⟩
abbrev main_v148 : Ref sig .tc := ⟨.hbm, 301, rfl⟩
abbrev main_v149 : Ref sig .tc := ⟨.hbm, 302, rfl⟩
abbrev main_cst_22 : Ref sig .tc := ⟨.hbm, 303, rfl⟩
abbrev main_v150 : Ref sig .tc := ⟨.hbm, 304, rfl⟩
abbrev main_v151 : Ref sig .tc := ⟨.hbm, 305, rfl⟩
abbrev main_v152 : Ref sig .tc := ⟨.hbm, 306, rfl⟩
abbrev main_v153 : Ref sig .tc := ⟨.hbm, 307, rfl⟩
abbrev main_cst_23 : Ref sig .tc := ⟨.hbm, 308, rfl⟩
abbrev main_v154 : Ref sig .tc := ⟨.hbm, 309, rfl⟩
abbrev main_v155 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_cst_24 : Ref sig .tc := ⟨.hbm, 314, rfl⟩
abbrev main_v159 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_v164 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_v168 : Ref sig .tc := ⟨.hbm, 324, rfl⟩
abbrev main_v169 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_cst_25 : Ref sig .tc := ⟨.hbm, 332, rfl⟩
abbrev main_call10_v0 : Ref sig .tc := ⟨.hbm, 333, rfl⟩
abbrev main_call10_v1 : Ref sig .tc := ⟨.hbm, 334, rfl⟩
abbrev main_call10_v2 : Ref sig .tc := ⟨.hbm, 335, rfl⟩
abbrev main_v176 : Ref sig .tc := ⟨.hbm, 336, rfl⟩
abbrev main_v177 : Ref sig .tc := ⟨.hbm, 337, rfl⟩
abbrev main_v178 : Ref sig .tc := ⟨.hbm, 338, rfl⟩
abbrev main_v179 : Ref sig .tc := ⟨.hbm, 339, rfl⟩

abbrev nD : Nat := 1
abbrev τ : Topo := Topo.v7x

variable {F : FTy → Type} [FloatOps F]
-- ==== Proof.ReferenceFrame.lean ====
/- The reference runs: its host operations, one after another, end without fault, leave the arguments as they were
   and touch no semaphore. -/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Host

open Idealize.ShloMosaic Idealize.SL.Sem Cert.ReferenceIdeal

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · exact sem_eq_zero_of_no_sems (sig := sig) (by decide) _

end Cert.ReferenceIdeal.Host

end
-- ==== Proof.Model.lean ====
/- The kernel's vector arithmetic as functions of whole blocks: the running maximum and its position over the
   ground-truth boxes for one chunk of eight rows, the two scores of a chunk, and one pick of the greatest score. -/
module

public import proofs.«01_k».proof.Defs
public import proofs.«01_k».proof.Proof.Gen.KernelIdeal

@[expose] public section

noncomputable section

namespace Cert.KernelIdeal.Model

open Idealize.ShloMosaic Idealize.SL.Sem Cert.KernelIdeal Cert.KernelIdeal.Gen

variable {F : FTy → Type} [FloatOps F]

/-- The f32 word of a natural number below `2 ^ 24`. -/
def natBits (g : Nat) : BitVec 32 :=
  BitVec.ofNat 32 ((1 - (1 - g)) * ((127 + Nat.log2 g) * 8388608 + (g - 2 ^ Nat.log2 g) * 2 ^ (23 - Nat.log2 g)))

/-- The constant block of a chunk. -/
def kst (b : BitVec 32) : FVec F S8x128 .f32 := broadcast S8x128 (Scalar.ofBits .f32 b : F .f32)

/-- The coordinates of a chunk's boxes, and their areas. -/
def coord (x : Vec F S1x8x128 .f32) : FVec F S8x128 .f32 := shapeCast S8x128 x shapeCasts_S1x8x128_S8x128
/-- The areas of a chunk's boxes. -/
def areaA (a1 b1 a2 b2 : FVec F S8x128 .f32) : FVec F S8x128 .f32 :=
  mulf (addf (subf a2 a1) (kst 0x3F800000#32)) (addf (subf b2 b1) (kst 0x3F800000#32))

/-- The area of one ground-truth box. -/
def areaB (w : Fin 4 → F .f32) : F .f32 :=
  Scalar.mulf (Scalar.addf (Scalar.subf (w 2) (w 0)) (Scalar.ofBits .f32 0x3F800000#32))
    (Scalar.addf (Scalar.subf (w 3) (w 1)) (Scalar.ofBits .f32 0x3F800000#32))

/-- The length of the overlap along one axis. -/
def side (lo hi : FVec F S8x128 .f32) (l h : F .f32) : FVec F S8x128 .f32 :=
  maximumf (addf (subf (minimumf hi (broadcast S8x128 h)) (maximumf lo (broadcast S8x128 l))) (kst 0x3F800000#32))
    (kst 0x00000000#32)

/-- The overlap quotient of a chunk's boxes with one ground-truth box. -/
def iou (a1 b1 a2 b2 : FVec F S8x128 .f32) (area : FVec F S8x128 .f32) (w : Fin 4 → F .f32) : FVec F S8x128 .f32 :=
  divf (mulf (side a1 a2 (w 0) (w 2)) (side b1 b2 (w 1) (w 3)))
    (maximumf (subf (addf area (broadcast S8x128 (areaB w))) (mulf (side a1 a2 (w 0) (w 2)) (side b1 b2 (w 1) (w 3))))
      (kst 0x322BCC77#32))

/-- The running maximum over the first `n` of the quotients `q`. -/
def maxvN (q : Fin 64 → FVec F S8x128 .f32) (n : Nat) : n ≤ 64 → FVec F S8x128 .f32 :=
  Nat.rec (motive := fun n => n ≤ 64 → FVec F S8x128 .f32) (fun _ => kst 0xBF800000#32)
    (fun g r h => select (cmpf .ogt (q ⟨g, h⟩) (r (Nat.le_of_lt h))) (q ⟨g, h⟩) (r (Nat.le_of_lt h))) n

/-- The position of the running maximum over the first `n` of the quotients `q`, as a float. -/
def asgN (q : Fin 64 → FVec F S8x128 .f32) (n : Nat) : n ≤ 64 → FVec F S8x128 .f32 :=
  Nat.rec (motive := fun n => n ≤ 64 → FVec F S8x128 .f32) (fun _ => kst 0x00000000#32)
    (fun g r h => select (cmpf .ogt (q ⟨g, h⟩) (maxvN q g (Nat.le_of_lt h))) (kst (natBits g)) (r (Nat.le_of_lt h))) n

/-- The positions within a chunk. -/
def rel : IVec S8x128 32 :=
  addi (muli (iota .tc S8x128 32 [0] iota_S8x128_d0_w32) (broadcast S8x128 128#32)) (iota .tc S8x128 32 [1] iota_S8x128_d1_w32)

/-- Which positions of the chunk starting at row `s` hold a box. -/
def valid (s : BitVec 32) : IVec S8x128 1 :=
  cmpi .slt (addi (broadcast S8x128 (Scalar.muli s 128#32)) rel) (broadcast S8x128 20064#32)

/-- The foreground score of a chunk from its maxima. -/
def fgOf (s : BitVec 32) (mx : FVec F S8x128 .f32) : FVec F S8x128 .f32 :=
  select (valid s) (select (andi (valid s) (cmpf .oge mx (kst 0x3F333333#32))) mx (kst 0xBF800000#32)) (kst 0xC0000000#32)

/-- The background score of a chunk from its maxima. -/
def bgOf (s : BitVec 32) (mx : FVec F S8x128 .f32) : FVec F S8x128 .f32 :=
  select (valid s) (select (andi (andi (valid s) (cmpf .olt mx (kst 0x3F000000#32))) (cmpf .oge mx (kst 0x3DCCCCCD#32)))
    mx (kst 0xBF800000#32)) (kst 0xC0000000#32)

/-! ## One pick -/

/-- Each column's maximum. -/
def colMax (v : FVec F S160x128 .f32) : FVec F S1x128 .f32 :=
  shapeCast S1x128 (multiReduction .maximumf [0] S128 v 0xFF800000#32 reduces_S160x128_S128 (.inl rfl) rfl) shapeCasts_S128_S1x128

/-- Each column's lowest row at which its maximum stands. -/
def colRow (v : FVec F S160x128 .f32) : IVec S1x128 32 :=
  shapeCast S1x128 (multiReductionI .minsi [0] S128
    (select (cmpf .oeq v (broadcastTo S160x128 (colMax v) broadcasts_S1x128_S160x128))
      (broadcastTo S160x128 (shapeCast S160x1 (iota .tc S160x1 32 [0] iota_S160x1_d0_w32) shapeCasts_S160x1_S160x1) broadcasts_S160x1_S160x128)
      (broadcast S160x128 1073741824#32)) 2147483647#32 reduces_S160x128_S128 rfl) shapeCasts_S128_S1x128

/-- The flat position picked: the lowest one of the greatest value. -/
def pickIdx (v : FVec F S160x128 .f32) : IVec S1x1 32 :=
  shapeCast S1x1 (multiReductionI .minsi [1] S1
    (select (cmpf .oeq (colMax v) (broadcastTo S1x128 (shapeCast S1x1
        (multiReduction .maximumf [1] S1 (colMax v) 0xFF800000#32 reduces_S1x128_S1 (.inl rfl) rfl) shapeCasts_S1_S1x1) broadcasts_S1x1_S1x128))
      (addi (muli (colRow v) (broadcast S1x128 128#32)) (iota .tc S1x128 32 [1] iota_S1x128_d1_w32))
      (broadcast S1x128 1073741824#32)) 2147483647#32 reduces_S1x128_S1 rfl) shapeCasts_S1_S1x1

/-- A position's row: the quotient by 128, rounded down. -/
def rowOf {s : Shape} (i : IVec s 32) : IVec s 32 :=
  select (andi (cmpi .ne (subi (extui 32 (cmpi .sgt i (broadcast s 0#32)) natLt_1_32) (extui 32 (cmpi .slt i (broadcast s 0#32)) natLt_1_32))
        (broadcast s (Scalar.subi (Scalar.extui (Scalar.cmpi .sgt 128#32 0#32)) (Scalar.extui (Scalar.cmpi .slt 128#32 0#32)))))
      (cmpi .ne (remsi i (broadcast s 128#32)) (broadcast s 0#32)))
    (subi (divsi i (broadcast s 128#32)) (broadcast s 1#32)) (divsi i (broadcast s 128#32))

/-- A position's lane: the remainder by 128, of the divisor's sign. -/
def laneOf {s : Shape} (h : s.Broadcasts s) (i : IVec s 32) : IVec s 32 :=
  select (andi (xori (cmpi .slt (remsi i (broadcast s (Scalar.select (Scalar.cmpi .eq 128#32 0#32) 1#32 128#32))) (broadcast s 0#32))
        (broadcastTo s (broadcast s (Scalar.cmpi .slt (Scalar.select (Scalar.cmpi .eq 128#32 0#32) 1#32 128#32) 0#32)) h))
      (cmpi .ne (remsi i (broadcast s (Scalar.select (Scalar.cmpi .eq 128#32 0#32) 1#32 128#32))) (broadcast s 0#32)))
    (addi (remsi i (broadcast s (Scalar.select (Scalar.cmpi .eq 128#32 0#32) 1#32 128#32))) (broadcast s (Scalar.select (Scalar.cmpi .eq 128#32 0#32) 1#32 128#32)))
    (remsi i (broadcast s (Scalar.select (Scalar.cmpi .eq 128#32 0#32) 1#32 128#32)))

/-- The block after a pick: the picked position lowered to -2. -/
def pickNext (v : FVec F S160x128 .f32) : FVec F S160x128 .f32 :=
  select (andi
      (broadcastTo S160x128 (cmpi .eq (iota .tc S160x1 32 [0] iota_S160x1_d0_w32)
        (broadcastTo S160x1 (rowOf (pickIdx v)) broadcasts_S1x1_S160x1)) broadcasts_S160x1_S160x128)
      (broadcastTo S160x128 (cmpi .eq (iota .tc S1x128 32 [1] iota_S1x128_d1_w32)
        (broadcastTo S1x128 (laneOf broadcasts_S1x1_S1x1 (pickIdx v)) broadcasts_S1x1_S1x128)) broadcasts_S1x128_S160x128))
    (broadcast S160x128 (Scalar.ofBits .f32 0xC0000000#32 : F .f32)) v

/-- The block after `n` picks. -/
def pickN (v : FVec F S160x128 .f32) (n : Nat) : FVec F S160x128 .f32 :=
  Nat.rec (motive := fun _ => FVec F S160x128 .f32) v (fun _ r => pickNext r) n

/-! ## Gathering at the picked positions -/

/-- The one-hot rows of the positions `i`. -/
def rowHot (i : IVec S128x1 32) : FVec F S128x160 .f32 :=
  select (cmpi .eq (broadcastTo S128x160 (rowOf i) broadcasts_S128x1_S128x160)
      (broadcastTo S128x160 (iota .tc S1x160 32 [1] iota_S1x160_d1_w32) broadcasts_S1x160_S128x160))
    (broadcast S128x160 (Scalar.ofBits .f32 0x3F800000#32 : F .f32)) (broadcast S128x160 (Scalar.ofBits .f32 0x00000000#32 : F .f32))

/-- The one-hot lanes of the positions `i`. -/
def laneHot (i : IVec S128x1 32) : FVec F S128x128 .f32 :=
  select (cmpi .eq (broadcastTo S128x128 (laneOf broadcasts_S128x1_S128x1 i) broadcasts_S128x1_S128x128)
      (broadcastTo S128x128 (iota .tc S1x128 32 [1] iota_S1x128_d1_w32) broadcasts_S1x128_S128x128))
    (broadcast S128x128 (Scalar.ofBits .f32 0x3F800000#32 : F .f32)) (broadcast S128x128 (Scalar.ofBits .f32 0x00000000#32 : F .f32))

/-- The entries of the block `p` at the positions `i`. -/
def gath (i : IVec S128x1 32) (p : FVec F S160x128 .f32) : FVec F S128x1 .f32 :=
  shapeCast S128x1 (multiReduction .add [1] S128
    (mulf (matmul dot_S128x128_S160x128_S128x160_1_1_0_0_n_n (some .fp32) (laneHot i) p (constant S128x160 .f32 0x00000000#32)) (rowHot i))
    0x00000000#32 reduces_S128x160_S128 (.inl rfl) rfl) shapeCasts_S128_S128x1

/-- One coordinate plane. -/
def plane (x : Vec F S1x160x128 .f32) : FVec F S160x128 .f32 := shapeCast S160x128 x shapeCasts_S1x160x128_S160x128

/-- Whether a lane of four is lane `n`. -/
def lane4 (n : BitVec 32) : IVec S1x4 1 := cmpi .eq (iota .tc S1x4 32 [1] iota_S1x4_d1_w32) (broadcast S1x4 n)

/-- Four columns side by side, 128 rows. -/
def join4 (x0 x1 x2 x3 : FVec F S128x1 .f32) : FVec F S128x4 .f32 :=
  select (broadcastTo S128x4 (shapeCast S1x4 (lane4 0#32) shapeCasts_S1x4_S1x4) broadcasts_S1x4_S128x4)
    (broadcastTo S128x4 (shapeCast S128x1 x0 shapeCasts_S128x1_S128x1) broadcasts_S128x1_S128x4)
    (select (broadcastTo S128x4 (shapeCast S1x4 (lane4 1#32) shapeCasts_S1x4_S1x4) broadcasts_S1x4_S128x4)
      (broadcastTo S128x4 (shapeCast S128x1 x1 shapeCasts_S128x1_S128x1) broadcasts_S128x1_S128x4)
      (select (broadcastTo S128x4 (shapeCast S1x4 (lane4 2#32) shapeCasts_S1x4_S1x4) broadcasts_S1x4_S128x4)
        (broadcastTo S128x4 (shapeCast S128x1 x2 shapeCasts_S128x1_S128x1) broadcasts_S128x1_S128x4)
        (broadcastTo S128x4 (shapeCast S128x1 x3 shapeCasts_S128x1_S128x1) broadcasts_S128x1_S128x4)))

/-- Four columns side by side, 64 rows. -/
def join4h (x0 x1 x2 x3 : FVec F S64x1 .f32) : FVec F S64x4 .f32 :=
  select (broadcastTo S64x4 (shapeCast S1x4 (lane4 0#32) shapeCasts_S1x4_S1x4) broadcasts_S1x4_S64x4)
    (broadcastTo S64x4 (shapeCast S64x1 x0 shapeCasts_S64x1_S64x1) broadcasts_S64x1_S64x4)
    (select (broadcastTo S64x4 (shapeCast S1x4 (lane4 1#32) shapeCasts_S1x4_S1x4) broadcasts_S1x4_S64x4)
      (broadcastTo S64x4 (shapeCast S64x1 x1 shapeCasts_S64x1_S64x1) broadcasts_S64x1_S64x4)
      (select (broadcastTo S64x4 (shapeCast S1x4 (lane4 2#32) shapeCasts_S1x4_S1x4) broadcasts_S1x4_S64x4)
        (broadcastTo S64x4 (shapeCast S64x1 x2 shapeCasts_S64x1_S64x1) broadcasts_S64x1_S64x4)
        (broadcastTo S64x4 (shapeCast S64x1 x3 shapeCasts_S64x1_S64x1) broadcasts_S64x1_S64x4)))

/-- The boxes picked. -/
def roisM (i : IVec S128x1 32) (p : Fin 4 → FVec F S160x128 .f32) : FVec F S128x4 .f32 :=
  join4 (gath i (p 0)) (gath i (p 1)) (gath i (p 2)) (gath i (p 3))

/-- The first 64 of 128 rows. -/
def half (x : FVec F S128x1 .f32) : FVec F S64x1 .f32 := extractStridedSlice S64x1 ![0, 0] x slices_S128x1_o0_0_S64x1

/-- The one-hot ground-truth positions of the foreground picks. -/
def gtHot (i : IVec S128x1 32) (asg : FVec F S160x128 .f32) : FVec F S64x64 .f32 :=
  select (cmpi .eq (broadcastTo S64x64 (fptosi 32 (half (gath i asg))) broadcasts_S64x1_S64x64)
      (broadcastTo S64x64 (iota .tc S1x64 32 [1] iota_S1x64_d1_w32) broadcasts_S1x64_S64x64))
    (broadcast S64x64 (Scalar.ofBits .f32 0x3F800000#32 : F .f32)) (broadcast S64x64 (Scalar.ofBits .f32 0x00000000#32 : F .f32))

/-- The labels of the foreground picks. -/
def labM (a : FVec F S64x64 .f32) (lab : FVec F S64x21 .f32) : FVec F S64x21 .f32 :=
  matmul dot_S64x64_S64x21_S64x21_1_0_0_1_n_n (some .fp32) a (shapeCast S64x21 lab shapeCasts_S64x21_S64x21) (constant S64x21 .f32 0x00000000#32)

/-- The label of every background pick. -/
def bgLab : FVec F S64x21 .f32 :=
  select (broadcastTo S64x21 (shapeCast S1x21 (cmpi .eq (iota .tc S1x21 32 [1] iota_S1x21_d1_w32) (broadcast S1x21 0#32)) shapeCasts_S1x21_S1x21) broadcasts_S1x21_S64x21)
    (broadcast S64x21 (Scalar.ofBits .f32 0x3F800000#32 : F .f32)) (broadcast S64x21 (Scalar.ofBits .f32 0x00000000#32 : F .f32))

/-- The ground-truth boxes of the foreground picks. -/
def gboxM (a : FVec F S64x64 .f32) (gt : FVec F S64x4 .f32) : FVec F S64x4 .f32 :=
  matmul dot_S64x64_S64x4_S64x4_1_0_0_1_n_n (some .fp32) a (shapeCast S64x4 gt shapeCasts_S64x4_S64x4) (constant S64x4 .f32 0x00000000#32)

/-- Lane `n` of four, as a column. -/
def laneCol (n : BitVec 32) (g : FVec F S64x4 .f32) : FVec F S64x1 .f32 :=
  shapeCast S64x1 (multiReduction .add [1] S64
    (select (broadcastTo S64x4 (shapeCast S1x4 (lane4 n) shapeCasts_S1x4_S1x4) broadcasts_S1x4_S64x4) g
      (broadcast S64x4 (Scalar.ofBits .f32 0x00000000#32 : F .f32)))
    0x00000000#32 reduces_S64x4_S64 (.inl rfl) rfl) shapeCasts_S64_S64x1

/-- A constant column. -/
def kcol (b : BitVec 32) : FVec F S64x1 .f32 := broadcast S64x1 (Scalar.ofBits .f32 b : F .f32)

/-- The extent from `lo` to `hi`. -/
def ext (lo hi : FVec F S64x1 .f32) : FVec F S64x1 .f32 := addf (subf hi lo) (kcol 0x3F800000#32)

/-- The middle from `lo` to `hi`. -/
def mid (lo hi : FVec F S64x1 .f32) : FVec F S64x1 .f32 := addf lo (mulf (kcol 0x3F000000#32) (ext lo hi))

/-- The regression targets of 64 boxes against 64 ground-truth boxes. -/
def tgtM (x1 y1 x2 y2 g1 h1 g2 h2 : FVec F S64x1 .f32) : FVec F S64x4 .f32 :=
  join4h (divf (subf (mid g1 g2) (mid x1 x2)) (ext x1 x2)) (divf (subf (mid h1 h2) (mid y1 y2)) (ext y1 y2))
    (log (divf (ext g1 g2) (ext x1 x2))) (log (divf (ext h1 h2) (ext y1 y2)))

/-- The regression targets of the foreground picks. -/
def boxM (i : IVec S128x1 32) (p : Fin 4 → FVec F S160x128 .f32) (g : FVec F S64x4 .f32) : FVec F S64x4 .f32 :=
  tgtM (half (gath i (p 0))) (half (gath i (p 1))) (half (gath i (p 2))) (half (gath i (p 3)))
    (laneCol 0#32 g) (laneCol 1#32 g) (laneCol 2#32 g) (laneCol 3#32 g)

end Cert.KernelIdeal.Model

end
-- ==== Proof.TripEq.lean ====
/- One trip of the chunk loop stores the three blocks of `Model`. -/
module

public import proofs.«01_k».proof.Proof.Model
public import proofs.«01_k».proof.Proof.Gen.KernelIdeal.Loops

@[expose] public section

set_option maxRecDepth 100000

noncomputable section

namespace Cert.KernelIdeal.Model

open Idealize.ShloMosaic Idealize.ShloMosaic.Tactic Idealize.SL.Sem Cert.KernelIdeal Cert.KernelIdeal.Gen

variable {F : FTy → Type} [FloatOps F]

/-- Each coordinate lies within the array of ground-truth boxes. -/
theorem word_inb (g : Fin 64) (j : Fin 4) : ∀ a, (![g.val, j.val] : Fin 2 → Nat) a + S1x1.size a ≤ S64x4.size a := by
  intro a
  match a with
  | ⟨0, _⟩ => show g.val + 1 ≤ 64; omega
  | ⟨1, _⟩ => show j.val + 1 ≤ 4; omega

/-- The coordinate `j` of ground-truth box `g`, as read from memory. -/
def word (arg0 : Memref sig .tc .smem S64x4 .f32) (X0 : BufTy.Contents (Elt F) arg0.view.ty) (g : Fin 64) (j : Fin 4) : F .f32 :=
  arg0.view.readAt (Elt F) (Rect.unit (s := S64x4) ![g.val, j.val] S1x1.size (word_inb g j)).toLoadRect X0 (Shape.Idx.first (s := S1x1) (by decide))

/-- The first row of chunk `k`, as a word. -/
def start (k : Fin k0_t1_loop.trips) : BitVec 32 := trip_k0_t1.sl.v9483 k

section
variable (𝒱 : Variants) (c : Dev nD) (bd : Option 𝒱.V) (arg0 : Memref sig .tc .smem S64x4 .f32) (harg0 : arg0.IsWhole) (arg1 : Memref sig .tc .vmem S4x160x128 .f32) (harg1 : arg1.IsWhole) (arg2 : Memref sig .tc .vmem S64x4 .f32) (harg2 : arg2.IsWhole) (arg3 : Memref sig .tc .vmem S64x21 .f32) (harg3 : arg3.IsWhole) (arg4 : Memref sig .tc .vmem S128x4 .f32) (harg4 : arg4.IsWhole) (arg5 : Memref sig .tc .vmem S128x21 .f32) (harg5 : arg5.IsWhole) (arg6 : Memref sig .tc .vmem S128x4 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x1 .i32) (harg10 : arg10.IsWhole) (X0 : BufTy.Contents (Elt F) arg0.view.ty) (X1 : BufTy.Contents (Elt F) arg1.view.ty) (k : Fin k0_t1_loop.trips)

/-- The first coordinates of chunk `k`. -/
def ax1 : FVec F S8x128 .f32 := coord (arg1.view.readAt (Elt F) (Rect.unit (s := S4x160x128) (k0_off1 k) S1x8x128.size (k0_off1_inb k)).toLoadRect X1)
/-- The second coordinates of chunk `k`. -/
def ay1 : FVec F S8x128 .f32 := coord (arg1.view.readAt (Elt F) (Rect.unit (s := S4x160x128) (k0_off2 k) S1x8x128.size (k0_off2_inb k)).toLoadRect X1)
/-- The third coordinates of chunk `k`. -/
def ax2 : FVec F S8x128 .f32 := coord (arg1.view.readAt (Elt F) (Rect.unit (s := S4x160x128) (k0_off3 k) S1x8x128.size (k0_off3_inb k)).toLoadRect X1)
/-- The fourth coordinates of chunk `k`. -/
def ay2 : FVec F S8x128 .f32 := coord (arg1.view.readAt (Elt F) (Rect.unit (s := S4x160x128) (k0_off4 k) S1x8x128.size (k0_off4_inb k)).toLoadRect X1)

/-- The overlap quotients of chunk `k`. -/
def quot (g : Fin 64) : FVec F S8x128 .f32 :=
  iou (ax1 arg1 X1 k) (ay1 arg1 X1 k) (ax2 arg1 X1 k) (ay2 arg1 X1 k)
    (areaA (ax1 arg1 X1 k) (ay1 arg1 X1 k) (ax2 arg1 X1 k) (ay2 arg1 X1 k)) (word arg0 X0 g)

/-- The first piece stored by a trip: the positions of the maxima. -/
theorem trip_asg : (trip_k0_t1 (F := F) 𝒱 c bd arg0 harg0 arg1 harg1 arg2 harg2 arg3 harg3 arg4 harg4 arg5 harg5 arg6 harg6 arg7 harg7 arg8 harg8 arg9 harg9 arg10 harg10 X0 X1 k).1
    = [⟨Rect.unit (s := S160x128) (k0_off5 k) S8x128.size (k0_off5_inb k), shapeCast S8x128 (asgN (quot arg0 arg1 X0 X1 k) 64 (Nat.le_refl _)) shapeCasts_S8x128_S8x128⟩] := by
  sl_kernel_rfl

/-- The second piece stored by a trip: the foreground scores. -/
theorem trip_fg : (trip_k0_t1 (F := F) 𝒱 c bd arg0 harg0 arg1 harg1 arg2 harg2 arg3 harg3 arg4 harg4 arg5 harg5 arg6 harg6 arg7 harg7 arg8 harg8 arg9 harg9 arg10 harg10 X0 X1 k).2.1
    = [⟨Rect.unit (s := S160x128) (k0_off5 k) S8x128.size (k0_off5_inb k), shapeCast S8x128 (fgOf (start k) (maxvN (quot arg0 arg1 X0 X1 k) 64 (Nat.le_refl _))) shapeCasts_S8x128_S8x128⟩] := by
  sl_kernel_rfl

/-- The third piece stored by a trip: the background scores. -/
theorem trip_bg : (trip_k0_t1 (F := F) 𝒱 c bd arg0 harg0 arg1 harg1 arg2 harg2 arg3 harg3 arg4 harg4 arg5 harg5 arg6 harg6 arg7 harg7 arg8 harg8 arg9 harg9 arg10 harg10 X0 X1 k).2.2.1
    = [⟨Rect.unit (s := S160x128) (k0_off5 k) S8x128.size (k0_off5_inb k), shapeCast S8x128 (bgOf (start k) (maxvN (quot arg0 arg1 X0 X1 k) 64 (Nat.le_refl _))) shapeCasts_S8x128_S8x128⟩] := by
  sl_kernel_rfl

end

end Cert.KernelIdeal.Model

end
-- ==== Proof.RunEq.lean ====
/- The lists of stores of the whole kernel body, as functions of the blocks it loads. -/
module

public import proofs.«01_k».proof.Proof.TripEq
public import proofs.«01_k».proof.Proof.Gen.KernelIdeal.Frame

@[expose] public section

set_option maxRecDepth 100000

noncomputable section

namespace Cert.KernelIdeal.Model

open Idealize.ShloMosaic Idealize.ShloMosaic.Tactic Idealize.SL.Sem Cert.KernelIdeal Cert.KernelIdeal.Gen

variable {F : FTy → Type} [FloatOps F]

/-- Each slot lies within the index vector. -/
theorem slot_inb (n : Nat) (h : n < 128) : ∀ a, (![n, 0] : Fin 2 → Nat) a + S1x1.size a ≤ S128x1.size a := by
  intro a
  match a with
  | ⟨0, _⟩ => show n + 1 ≤ 128; omega
  | ⟨1, _⟩ => show 0 + 1 ≤ 1; omega

/-- The store of one picked position in slot `n`. -/
def slotPiece (n : Nat) (h : n < 128) (i : IVec S1x1 32) : View.Piece (Elt F) S128x1 .i32 :=
  ⟨Rect.unit (s := S128x1) ![n, 0] S1x1.size (slot_inb n h), shapeCast S1x1 i shapeCasts_S1x1_S1x1⟩

/-- The stores of the first `n` picks from each of two blocks of scores, last first. -/
def slots (f b : FVec F S160x128 .f32) (n : Nat) : n ≤ 64 → List (View.Piece (Elt F) S128x1 .i32) :=
  Nat.rec (motive := fun n => n ≤ 64 → List (View.Piece (Elt F) S128x1 .i32)) (fun _ => [])
    (fun j r h => slotPiece (64 + j) (by omega) (pickIdx (pickN b j)) :: slotPiece j (by omega) (pickIdx (pickN f j)) :: r (Nat.le_of_lt h)) n

section
variable (c : Dev nD) (arg0 : Memref sig .tc .smem S64x4 .f32) (harg0 : arg0.IsWhole) (arg1 : Memref sig .tc .vmem S4x160x128 .f32) (harg1 : arg1.IsWhole) (arg2 : Memref sig .tc .vmem S64x4 .f32) (harg2 : arg2.IsWhole) (arg3 : Memref sig .tc .vmem S64x21 .f32) (harg3 : arg3.IsWhole) (arg4 : Memref sig .tc .vmem S128x4 .f32) (harg4 : arg4.IsWhole) (arg5 : Memref sig .tc .vmem S128x21 .f32) (harg5 : arg5.IsWhole) (arg6 : Memref sig .tc .vmem S128x4 .f32) (harg6 : arg6.IsWhole) (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x1 .i32) (harg10 : arg10.IsWhole)
  (x0 : Vec F S64x4 .f32) (x1 : Vec F S4x160x128 .f32) (x2 : Vec F S64x4 .f32) (x3 : Vec F S64x21 .f32)

/-- The position block that the chunk loop leaves. -/
def asgB : FVec F S160x128 .f32 := arg7.view.readCov (Val := Elt F) (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) k0_t1_loop.trips).1 (Rect.unit (s := S160x128) ![0, 0] S160x128.size inb_S160x128_S160x128_0_0).toLoadRect
/-- The foreground block that the chunk loop leaves. -/
def fgB : FVec F S160x128 .f32 := arg8.view.readCov (Val := Elt F) (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) k0_t1_loop.trips).2.1 (Rect.unit (s := S160x128) ![0, 0] S160x128.size inb_S160x128_S160x128_0_0).toLoadRect
/-- The background block that the chunk loop leaves. -/
def bgB : FVec F S160x128 .f32 := arg9.view.readCov (Val := Elt F) (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) k0_t1_loop.trips).2.2 (Rect.unit (s := S160x128) ![0, 0] S160x128.size inb_S160x128_S160x128_0_0).toLoadRect

/-- The picked positions. -/
def idxB : IVec S128x1 32 := arg10.view.readCov (Val := Elt F) (slots (fgB c arg0 harg0 arg1 harg1 arg2 harg2 arg3 harg3 arg4 harg4 arg5 harg5 arg6 harg6 arg7 harg7 arg8 harg8 arg9 harg9 arg10 harg10 x0 x1) (bgB c arg0 harg0 arg1 harg1 arg2 harg2 arg3 harg3 arg4 harg4 arg5 harg5 arg6 harg6 arg7 harg7 arg8 harg8 arg9 harg9 arg10 harg10 x0 x1) 64 (Nat.le_refl _)) (Rect.unit (s := S128x1) ![0, 0] S128x1.size inb_S128x1_S128x1_0_0).toLoadRect

/-- The index vector that the body loads is the one left by the 128 stores. -/
theorem idx_eq : kernelRun0_A.sl.v9259 (F := F) c arg0 harg0 arg1 harg1 arg2 harg2 arg3 harg3 arg4 harg4 arg5 harg5 arg6 harg6 arg7 harg7 arg8 harg8 arg9 harg9 arg10 harg10 x0 x1 = idxB c arg0 harg0 arg1 harg1 arg2 harg2 arg3 harg3 arg4 harg4 arg5 harg5 arg6 harg6 arg7 harg7 arg8 harg8 arg9 harg9 arg10 harg10 x0 x1 := by
  sl_kernel_rfl

/-- Each plane lies within the array of planes. -/
theorem plane_inb (p : Fin 4) : ∀ a, (![p.val, 0, 0] : Fin 3 → Nat) a + S1x160x128.size a ≤ S4x160x128.size a := by
  intro a
  match a with
  | ⟨0, _⟩ => show p.val + 1 ≤ 4; omega
  | ⟨1, _⟩ => show 0 + 160 ≤ 160; omega
  | ⟨2, _⟩ => show 0 + 128 ≤ 128; omega

/-- Coordinate plane `p` as loaded. -/
def planeB (p : Fin 4) : FVec F S160x128 .f32 :=
  plane (arg1.view.readAt (Elt F) (Rect.unit (s := S4x160x128) ![p.val, 0, 0] S1x160x128.size (plane_inb p)).toLoadRect (harg1.unread (Val := Elt F) x1))

/-- The ground-truth boxes as loaded. -/
def gtB : FVec F S64x4 .f32 := arg2.view.readAt (Elt F) (Rect.unit (s := S64x4) ![0, 0] S64x4.size inb_S64x4_S64x4_0_0).toLoadRect (harg2.unread (Val := Elt F) x2)

/-- The labels as loaded. -/
def labB : FVec F S64x21 .f32 := arg3.view.readAt (Elt F) (Rect.unit (s := S64x21) ![0, 0] S64x21.size inb_S64x21_S64x21_0_0).toLoadRect (harg3.unread (Val := Elt F) x3)

/-- The one-hot ground-truth positions. -/
def hotB : FVec F S64x64 .f32 := gtHot (idxB c arg0 harg0 arg1 harg1 arg2 harg2 arg3 harg3 arg4 harg4 arg5 harg5 arg6 harg6 arg7 harg7 arg8 harg8 arg9 harg9 arg10 harg10 x0 x1) (asgB c arg0 harg0 arg1 harg1 arg2 harg2 arg3 harg3 arg4 harg4 arg5 harg5 arg6 harg6 arg7 harg7 arg8 harg8 arg9 harg9 arg10 harg10 x0 x1)

/-- The stores of the boxes. -/
theorem run_rois : (kernelRun0_A (F := F) c arg0 harg0 arg1 harg1 arg2 harg2 arg3 harg3 arg4 harg4 arg5 harg5 arg6 harg6 arg7 harg7 arg8 harg8 arg9 harg9 arg10 harg10 x0 x1 x2 x3).1
    = [⟨Rect.unit (s := S128x4) ![0, 0] S128x4.size inb_S128x4_S128x4_0_0, roisM (idxB c arg0 harg0 arg1 harg1 arg2 harg2 arg3 harg3 arg4 harg4 arg5 harg5 arg6 harg6 arg7 harg7 arg8 harg8 arg9 harg9 arg10 harg10 x0 x1) (planeB arg1 harg1 x1)⟩] := by
  sl_kernel_rfl

/-- The stores of the labels. -/
theorem run_labels : (kernelRun0_A (F := F) c arg0 harg0 arg1 harg1 arg2 harg2 arg3 harg3 arg4 harg4 arg5 harg5 arg6 harg6 arg7 harg7 arg8 harg8 arg9 harg9 arg10 harg10 x0 x1 x2 x3).2.1
    = [⟨Rect.unit (s := S128x21) ![64, 0] S64x21.size inb_S128x21_S64x21_64_0, bgLab⟩,
       ⟨Rect.unit (s := S128x21) ![0, 0] S64x21.size inb_S128x21_S64x21_0_0, labM (hotB c arg0 harg0 arg1 harg1 arg2 harg2 arg3 harg3 arg4 harg4 arg5 harg5 arg6 harg6 arg7 harg7 arg8 harg8 arg9 harg9 arg10 harg10 x0 x1) (labB arg3 harg3 x3)⟩] := by
  sl_kernel_rfl

/-- The stores of the regression targets. -/
theorem run_targets : (kernelRun0_A (F := F) c arg0 harg0 arg1 harg1 arg2 harg2 arg3 harg3 arg4 harg4 arg5 harg5 arg6 harg6 arg7 harg7 arg8 harg8 arg9 harg9 arg10 harg10 x0 x1 x2 x3).2.2.1
    = [⟨Rect.unit (s := S128x4) ![64, 0] S64x4.size inb_S128x4_S64x4_64_0, broadcast S64x4 (Scalar.ofBits .f32 0x00000000#32 : F .f32)⟩,
       ⟨Rect.unit (s := S128x4) ![0, 0] S64x4.size inb_S128x4_S64x4_0_0,
         boxM (idxB c arg0 harg0 arg1 harg1 arg2 harg2 arg3 harg3 arg4 harg4 arg5 harg5 arg6 harg6 arg7 harg7 arg8 harg8 arg9 harg9 arg10 harg10 x0 x1) (planeB arg1 harg1 x1) (gboxM (hotB c arg0 harg0 arg1 harg1 arg2 harg2 arg3 harg3 arg4 harg4 arg5 harg5 arg6 harg6 arg7 harg7 arg8 harg8 arg9 harg9 arg10 harg10 x0 x1) (gtB arg2 harg2 x2))⟩] := by
  sl_kernel_rfl

end

end Cert.KernelIdeal.Model

end
-- ==== Proof.Arrays.lean ====
/- What the loads after the chunk loop and after the picks read: whole arrays, entry by entry. -/
module

public import proofs.«01_k».proof.Proof.RunEq
public import Idealize.ShloMosaic.Lib.Pipeline.Value
public import Idealize.ShloMosaic.Lib.Pointwise.Index

@[expose] public section

set_option maxRecDepth 16384

noncomputable section

namespace Cert.KernelIdeal.Model

open Idealize.ShloMosaic Idealize.SL.Sem Cert.KernelIdeal Cert.KernelIdeal.Gen

variable {F : FTy → Type} [FloatOps F]

/-- A row's chunk of eight is one of the twenty chunks. -/
theorem chunk_lt (r : Fin 160) : r.val / 8 < k0_t1_loop.trips := by
  have : k0_t1_loop.trips = 20 := by decide
  have := r.isLt
  omega

/-- The array whose eight-row chunks are the blocks `w`. -/
def stack (w : Fin k0_t1_loop.trips → FVec F S8x128 .f32) : FVec F S160x128 .f32 :=
  fun y => w ⟨(y 0).val / 8, chunk_lt (y 0)⟩ (ix2 (n0 := 8) (n1 := 128) ⟨(y 0).val % 8, Nat.mod_lt _ (by decide)⟩ (y 1))

/-- Reading a whole array as one rectangle gives the array. -/
theorem ld_whole {s : Shape} {e : EltTy} (X : s.Idx → Elt F e) (off : Fin s.rank → Nat) (inb : ∀ a, off a + s.size a ≤ s.size a) :
    (fun j => X ((Rect.unit off s.size inb).idx j)) = X := by
  funext j
  congr 1
  funext a
  apply Fin.ext
  have h := inb a
  show off a + 1 * (j a).val = (j a).val
  omega

/-- Twenty stores of eight rows each, one above the other, read as one array. -/
theorem read_stack (v : View sig .tc .vmem S160x128 .f32) (L : Nat → List (View.Piece (Elt F) S160x128 .f32))
    (w : Fin k0_t1_loop.trips → FVec F S8x128 .f32) (h0 : L 0 = [])
    (hs : ∀ k : Fin k0_t1_loop.trips, L (k.val + 1)
      = [⟨Rect.unit (s := S160x128) (k0_off5 k) S8x128.size (k0_off5_inb k), w k⟩] ++ L k.val) :
    v.readCov (Val := Elt F) (L k0_t1_loop.trips) (Rect.unit (s := S160x128) ![0, 0] S160x128.size inb_S160x128_S160x128_0_0).toLoadRect
      = stack w := by
  rw [View.readCov_eq_canon']
  have key : ∀ n, n ≤ k0_t1_loop.trips →
      (∀ p ∈ L n, ∀ x : p.1.shape.Idx, p.2 x = stack w (p.1.emb x)) ∧ ∀ y : S160x128.Idx, (y 0).val < 8 * n → ∃ p ∈ L n, y ∈ p.1.set := by
    intro n
    induction n with
    | zero => intro _; rw [h0]; exact ⟨fun p hp => absurd hp List.not_mem_nil, fun y hy => absurd hy (by omega)⟩
    | succ n ih =>
      intro hn
      obtain ⟨ih1, ih2⟩ := ih (Nat.le_of_succ_le hn)
      have e := hs ⟨n, hn⟩
      rw [e]
      have hoff := k0_off5_eq ⟨n, hn⟩
      constructor
      · intro p hp
        rcases List.mem_cons.mp hp with rfl | hp
        · intro x
          show w ⟨n, hn⟩ x = stack w ((Rect.unit (s := S160x128) (k0_off5 ⟨n, hn⟩) S8x128.size (k0_off5_inb ⟨n, hn⟩)).emb x)
          have hx0 : (x 0).val < 8 := (x 0).isLt
          have e0 : (((Rect.unit (s := S160x128) (k0_off5 ⟨n, hn⟩) S8x128.size (k0_off5_inb ⟨n, hn⟩)).emb x) 0).val = 8 * n + (x 0).val := by
            have h := congrFun hoff 0
            show k0_off5 ⟨n, hn⟩ 0 + 1 * (x 0).val = _
            rw [h]; show 8 * n + 1 * (x 0).val = _; omega
          have e1 : (((Rect.unit (s := S160x128) (k0_off5 ⟨n, hn⟩) S8x128.size (k0_off5_inb ⟨n, hn⟩)).emb x) 1).val = (x 1).val := by
            have h := congrFun hoff 1
            show k0_off5 ⟨n, hn⟩ 1 + 1 * (x 1).val = _
            rw [h]; show 0 + 1 * (x 1).val = _; omega
          unfold stack
          congr 1
          · congr 1; rw [e0]; omega
          · funext a
            match a with
            | ⟨0, _⟩ => apply Fin.ext; show (x 0).val = _ % 8; rw [e0]; omega
            | ⟨1, _⟩ => apply Fin.ext; exact e1.symm
        · exact ih1 p hp
      · intro y hy
        by_cases hlt : (y 0).val < 8 * n
        · obtain ⟨p, hp, hy'⟩ := ih2 y hlt
          exact ⟨p, List.mem_cons_of_mem _ hp, hy'⟩
        · refine ⟨_, List.mem_cons_self, ?_⟩
          show y ∈ (Rect.unit (s := S160x128) (k0_off5 ⟨n, hn⟩) S8x128.size (k0_off5_inb ⟨n, hn⟩)).set
          rw [Rect.mem_set_unit, hoff]
          intro a
          match a with
          | ⟨0, _⟩ =>
            show 8 * n ≤ (y 0).val ∧ (y 0).val < 8 * n + 8
            omega
          | ⟨1, _⟩ =>
            have : (y 1).val < 128 := (y 1).isLt
            show 0 ≤ (y 1).val ∧ (y 1).val < 0 + 128
            omega
  obtain ⟨k1, k2⟩ := key k0_t1_loop.trips (Nat.le_refl _)
  have hc : View.canon (L k0_t1_loop.trips) = stack w := by
    funext y
    refine View.canon_apply_of_pieces (stack w) _ k1 y (k2 y ?_)
    have h1 : k0_t1_loop.trips = 20 := by decide
    have : (y 0).val < 160 := (y 0).isLt
    omega
  rw [hc]
  exact ld_whole (F := F) (s := S160x128) (e := .f32) (stack w) ![0, 0] inb_S160x128_S160x128_0_0

/-- The index vector that the picks from two blocks of scores leave. -/
def picks (f b : FVec F S160x128 .f32) : IVec S128x1 32 :=
  fun y => if (y 0).val < 64 then pickIdx (pickN f (y 0).val) (ix2 (n0 := 1) (n1 := 1) 0 0)
    else pickIdx (pickN b ((y 0).val - 64)) (ix2 (n0 := 1) (n1 := 1) 0 0)

/-- One more pick from each block adds two stores. -/
theorem slots_succ (f b : FVec F S160x128 .f32) (j : Nat) (h : j + 1 ≤ 64) : slots f b (j + 1) h
    = slotPiece (64 + j) (by omega) (pickIdx (pickN b j)) :: slotPiece j (by omega) (pickIdx (pickN f j)) :: slots f b j (Nat.le_of_lt h) := rfl

/-- The store in a slot agrees with the vector of picks. -/
theorem slotPiece_agree (f b : FVec F S160x128 .f32) (n : Nat) (h : n < 128) (i : IVec S1x1 32)
    (hi : i (ix2 (n0 := 1) (n1 := 1) 0 0) = picks f b (ix2 (n0 := 128) (n1 := 1) ⟨n, h⟩ 0)) (x : (slotPiece (F := F) n h i).1.shape.Idx) :
    (slotPiece (F := F) n h i).2 x = picks f b ((slotPiece (F := F) n h i).1.emb x) := by
  have hx0 : (x 0).val < 1 := (x 0).isLt
  have hx1 : (x 1).val < 1 := (x 1).isLt
  have ex : x = ix2 (n0 := 1) (n1 := 1) 0 0 := by
    funext a
    match a with
    | ⟨0, _⟩ => apply Fin.ext; show (x 0).val = 0; omega
    | ⟨1, _⟩ => apply Fin.ext; show (x 1).val = 0; omega
  subst ex
  have ey : (slotPiece (F := F) n h i).1.emb (ix2 (n0 := 1) (n1 := 1) 0 0) = ix2 (n0 := 128) (n1 := 1) ⟨n, h⟩ 0 := by
    funext a
    match a with
    | ⟨0, _⟩ => apply Fin.ext; show n + 1 * 0 = n; omega
    | ⟨1, _⟩ => apply Fin.ext; show 0 + 1 * 0 = 0; omega
  rw [ey, ← hi]
  show shapeCast S1x1 i shapeCasts_S1x1_S1x1 _ = _
  rw [shapeCast_self]

/-- A slot's store covers the slot. -/
theorem slotPiece_mem (n : Nat) (h : n < 128) (i : IVec S1x1 32) (y : S128x1.Idx) (hy : (y 0).val = n) : y ∈ (slotPiece (F := F) n h i).1.set := by
  show y ∈ (Rect.unit (s := S128x1) ![n, 0] S1x1.size (slot_inb n h)).set
  rw [Rect.mem_set_unit]
  intro a
  match a with
  | ⟨0, _⟩ => show n ≤ (y 0).val ∧ (y 0).val < n + 1; omega
  | ⟨1, _⟩ =>
    have : (y 1).val < 1 := (y 1).isLt
    show 0 ≤ (y 1).val ∧ (y 1).val < 0 + 1; omega

/-- The first 64 entries are the foreground picks. -/
theorem picks_low (f b : FVec F S160x128 .f32) (n : Nat) (h : n < 128) (hn : n < 64) :
    picks f b (ix2 (n0 := 128) (n1 := 1) ⟨n, h⟩ 0) = pickIdx (pickN f n) (ix2 (n0 := 1) (n1 := 1) 0 0) := if_pos hn
/-- The last 64 entries are the background picks. -/
theorem picks_high (f b : FVec F S160x128 .f32) (n : Nat) (h : 64 + n < 128) :
    picks f b (ix2 (n0 := 128) (n1 := 1) ⟨64 + n, h⟩ 0) = pickIdx (pickN b n) (ix2 (n0 := 1) (n1 := 1) 0 0) :=
  (if_neg (show ¬ 64 + n < 64 by omega)).trans (by show pickIdx (pickN b (64 + n - 64)) _ = _; rw [Nat.add_sub_cancel_left])

/-- The 128 slots read as one vector. -/
theorem read_slots (v : View sig .tc .vmem S128x1 .i32) (f b : FVec F S160x128 .f32) :
    v.readCov (Val := Elt F) (slots f b 64 (Nat.le_refl _)) (Rect.unit (s := S128x1) ![0, 0] S128x1.size inb_S128x1_S128x1_0_0).toLoadRect = picks f b := by
  rw [View.readCov_eq_canon']
  have key : ∀ (n : Nat) (h : n ≤ 64),
      (∀ p ∈ slots f b n h, ∀ x : p.1.shape.Idx, p.2 x = picks f b (p.1.emb x))
      ∧ ∀ y : S128x1.Idx, (y 0).val < n ∨ (64 ≤ (y 0).val ∧ (y 0).val < 64 + n) → ∃ p ∈ slots f b n h, y ∈ p.1.set := by
    intro n
    induction n with
    | zero => intro _; exact ⟨fun p hp => absurd hp List.not_mem_nil, fun y hy => absurd hy (by omega)⟩
    | succ n ih =>
      intro h
      obtain ⟨ih1, ih2⟩ := ih (Nat.le_of_succ_le h)
      rw [slots_succ]
      constructor
      · intro p hp
        rcases List.mem_cons.mp hp with rfl | hp
        · exact slotPiece_agree f b _ _ _ (picks_high f b n (by omega)).symm
        · rcases List.mem_cons.mp hp with rfl | hp
          · exact slotPiece_agree f b _ _ _ (picks_low f b n (by omega) (by omega)).symm
          · exact ih1 p hp
      · intro y hy
        by_cases h1 : (y 0).val = 64 + n
        · exact ⟨_, List.mem_cons_self, slotPiece_mem _ _ _ y h1⟩
        · by_cases h2 : (y 0).val = n
          · exact ⟨_, List.mem_cons_of_mem _ List.mem_cons_self, slotPiece_mem _ _ _ y h2⟩
          · obtain ⟨p, hp, hy'⟩ := ih2 y (by omega)
            exact ⟨p, List.mem_cons_of_mem _ (List.mem_cons_of_mem _ hp), hy'⟩
  obtain ⟨k1, k2⟩ := key 64 (Nat.le_refl _)
  have hc : View.canon (slots f b 64 (Nat.le_refl _)) = picks f b := by
    funext y
    refine View.canon_apply_of_pieces (picks f b) _ k1 y (k2 y ?_)
    have : (y 0).val < 128 := (y 0).isLt
    omega
  rw [hc]
  exact ld_whole (F := F) (s := S128x1) (e := .i32) (picks f b) ![0, 0] inb_S128x1_S128x1_0_0

end Cert.KernelIdeal.Model

end
-- ==== Proof.Blocks.lean ====
/- What the kernel body leaves in its three result blocks, as functions of the four blocks it reads. -/
module

public import proofs.«01_k».proof.Proof.Arrays
public import Idealize.ShloMosaic.Lib.Pointwise

@[expose] public section

set_option maxRecDepth 100000

noncomputable section

namespace Cert.KernelIdeal.Model

open Idealize.ShloMosaic Idealize.ShloMosaic.Tactic Idealize.SL.Sem Cert.KernelIdeal Cert.KernelIdeal.Gen

variable {F : FTy → Type} [FloatOps F]

/-- The rows of every chunk lie within the 160 rows. -/
theorem row_lt (k : Fin k0_t1_loop.trips) (y : Fin 8) : 8 * k.val + y.val < 160 := by
  have : k0_t1_loop.trips = 20 := by decide
  have := k.isLt
  have := y.isLt
  omega

/-- Dropping the leading axis of a chunk keeps its entries. -/
theorem cast_chunk (f : Vec F S1x8x128 .f32) (a : Fin 8) (b : Fin 128) :
    shapeCast S8x128 f shapeCasts_S1x8x128_S8x128 (ix2 a b) = f (ix3 (n0 := 1) (n1 := 8) (n2 := 128) 0 a b) := by pointwise
/-- Dropping the leading axis of a plane keeps its entries. -/
theorem cast_plane (f : Vec F S1x160x128 .f32) (a : Fin 160) (b : Fin 128) :
    shapeCast S160x128 f shapeCasts_S1x160x128_S160x128 (ix2 a b) = f (ix3 (n0 := 1) (n1 := 160) (n2 := 128) 0 a b) := by pointwise

/-- Rows `8 k` to `8 k + 7` of coordinate plane `p`. -/
def chunk (X : FVec F S4x160x128 .f32) (p : Fin 4) (k : Fin k0_t1_loop.trips) : FVec F S8x128 .f32 :=
  fun y => X (ix3 (n0 := 4) (n1 := 160) (n2 := 128) p ⟨8 * k.val + (y 0).val, row_lt k (y 0)⟩ (y 1))

/-- The overlap quotients of chunk `k` with ground-truth box `g`. -/
def quotK (G : FVec F S64x4 .f32) (X : FVec F S4x160x128 .f32) (k : Fin k0_t1_loop.trips) (g : Fin 64) : FVec F S8x128 .f32 :=
  iou (chunk X 0 k) (chunk X 1 k) (chunk X 2 k) (chunk X 3 k) (areaA (chunk X 0 k) (chunk X 1 k) (chunk X 2 k) (chunk X 3 k))
    (fun j => G (ix2 (n0 := 64) (n1 := 4) g j))

/-- The positions of the maxima. -/
def asgK (G : FVec F S64x4 .f32) (X : FVec F S4x160x128 .f32) : FVec F S160x128 .f32 :=
  stack fun k => asgN (quotK G X k) 64 (Nat.le_refl _)
/-- The foreground scores. -/
def fgK (G : FVec F S64x4 .f32) (X : FVec F S4x160x128 .f32) : FVec F S160x128 .f32 :=
  stack fun k => fgOf (start k) (maxvN (quotK G X k) 64 (Nat.le_refl _))
/-- The background scores. -/
def bgK (G : FVec F S64x4 .f32) (X : FVec F S4x160x128 .f32) : FVec F S160x128 .f32 :=
  stack fun k => bgOf (start k) (maxvN (quotK G X k) 64 (Nat.le_refl _))
/-- The picked positions. -/
def idxK (G : FVec F S64x4 .f32) (X : FVec F S4x160x128 .f32) : IVec S128x1 32 := picks (fgK G X) (bgK G X)
/-- One coordinate plane. -/
def planeK (X : FVec F S4x160x128 .f32) (p : Fin 4) : FVec F S160x128 .f32 :=
  fun y => X (ix3 (n0 := 4) (n1 := 160) (n2 := 128) p (y 0) (y 1))
/-- The one-hot ground-truth positions. -/
def hotK (G : FVec F S64x4 .f32) (X : FVec F S4x160x128 .f32) : FVec F S64x64 .f32 := gtHot (idxK G X) (asgK G X)

/-- The block of boxes. -/
def roisK (G : FVec F S64x4 .f32) (X : FVec F S4x160x128 .f32) : FVec F S128x4 .f32 := roisM (idxK G X) (planeK X)
/-- The block of labels. -/
def labK (G : FVec F S64x4 .f32) (X : FVec F S4x160x128 .f32) (L : FVec F S64x21 .f32) : FVec F S128x21 .f32 :=
  fun y => if h : (y 0).val < 64 then labM (hotK G X) L (ix2 (n0 := 64) (n1 := 21) ⟨(y 0).val, h⟩ (y 1))
    else bgLab (ix2 (n0 := 64) (n1 := 21) ⟨(y 0).val - 64, by have : (y 0).val < 128 := (y 0).isLt; omega⟩ (y 1))
/-- The block of regression targets. -/
def tgtK (G : FVec F S64x4 .f32) (X : FVec F S4x160x128 .f32) (G' : FVec F S64x4 .f32) : FVec F S128x4 .f32 :=
  fun y => if h : (y 0).val < 64 then boxM (idxK G X) (planeK X) (gboxM (hotK G X) G') (ix2 (n0 := 64) (n1 := 4) ⟨(y 0).val, h⟩ (y 1))
    else Scalar.ofBits .f32 0x00000000#32

/-- Indices with equal components are equal. -/
theorem ix2_congr {n0 n1 : Nat} {a a' : Fin n0} {b b' : Fin n1} (h : a = a') (h' : b = b') : ix2 a b = ix2 a' b' := by
  rw [h, h']

/-- A stack of equal chunks is equal. -/
theorem stack_congr (w w' : Fin k0_t1_loop.trips → FVec F S8x128 .f32) (h : ∀ k, w k = w' k) : stack w = stack w' := by
  rw [show w = w' from funext h]

section
variable (c : Dev nD) (arg0 : Memref sig .tc .smem S64x4 .f32) (harg0 : arg0.IsWhole) (arg1 : Memref sig .tc .vmem S4x160x128 .f32) (harg1 : arg1.IsWhole)

/-- The coordinates of a ground-truth box as read from memory are those of the block. -/
theorem word_eq (x0 : Vec F S64x4 .f32) (g : Fin 64) : word arg0 (harg0.unread (Val := Elt F) x0) g = fun j => x0 (ix2 (n0 := 64) (n1 := 4) g j) := by
  funext j
  show arg0.view.readAt (Elt F) (Rect.unit (s := S64x4) ![g.val, j.val] S1x1.size (word_inb g j)).toLoadRect (harg0.unread (Val := Elt F) x0) (Shape.Idx.first (s := S1x1) (by decide)) = _
  refine Eq.trans (b := arg0.view.read (Elt F) (harg0.unread (Val := Elt F) x0) (ix2 (n0 := 64) (n1 := 4) g j)) ?_ (congrFun (harg0.read_unread x0) _)
  show arg0.view.read (Elt F) _ ((Rect.unit (s := S64x4) ![g.val, j.val] S1x1.size (word_inb g j)).idx _) = _
  congr 1
  funext a
  match a with
  | ⟨0, _⟩ => exact Fin.ext (by show g.val + 1 * 0 = g.val; omega)
  | ⟨1, _⟩ => exact Fin.ext (by show j.val + 1 * 0 = j.val; omega)

/-- Eight loaded rows of a plane are the chunk of that plane. -/
theorem coord_eq (x1 : Vec F S4x160x128 .f32) (p : Fin 4) (k : Fin k0_t1_loop.trips) (off : Fin 3 → Nat) (inb : ∀ a, off a + S1x8x128.size a ≤ S4x160x128.size a)
    (hoff : off = ![p.val, 8 * k.val, 0]) :
    coord (arg1.view.readAt (Elt F) (Rect.unit (s := S4x160x128) off S1x8x128.size inb).toLoadRect (harg1.unread (Val := Elt F) x1)) = chunk x1 p k := by
  subst hoff
  funext y
  obtain ⟨a, b, rfl⟩ : ∃ (a : Fin 8) (b : Fin 128), y = ix2 (n0 := 8) (n1 := 128) a b := ⟨y 0, y 1, eq_ix2 y⟩
  unfold coord chunk
  rw [Idealize.ShloMosaic.View.readAt_eq_ld, cast_chunk]
  refine (congrFun (harg1.read_unread x1) _).trans (congrArg x1 ?_)
  funext d
  match d with
  | ⟨0, _⟩ => exact Fin.ext (by show p.val + 1 * _ = p.val; simp)
  | ⟨1, _⟩ => exact Fin.ext (by show 8 * k.val + 1 * _ = 8 * k.val + _; simp)
  | ⟨2, _⟩ => exact Fin.ext (by show 0 + 1 * _ = _; simp)

/-- Coordinate plane `p` as loaded is that plane. -/
theorem planeB_eq (x1 : Vec F S4x160x128 .f32) : planeB arg1 harg1 x1 = planeK x1 := by
  funext p y
  obtain ⟨a, b, rfl⟩ : ∃ (a : Fin 160) (b : Fin 128), y = ix2 (n0 := 160) (n1 := 128) a b := ⟨y 0, y 1, eq_ix2 y⟩
  unfold planeB plane planeK
  rw [Idealize.ShloMosaic.View.readAt_eq_ld, cast_plane]
  refine (congrFun (harg1.read_unread x1) _).trans (congrArg x1 ?_)
  funext d
  match d with
  | ⟨0, _⟩ => exact Fin.ext (by show p.val + 1 * _ = p.val; simp)
  | ⟨1, _⟩ => exact Fin.ext (by show 0 + 1 * _ = _; simp)
  | ⟨2, _⟩ => exact Fin.ext (by show 0 + 1 * _ = _; simp)

variable (arg2 : Memref sig .tc .vmem S64x4 .f32) (harg2 : arg2.IsWhole) (arg3 : Memref sig .tc .vmem S64x21 .f32) (harg3 : arg3.IsWhole)

/-- The loaded ground-truth block is the block. -/
theorem gtB_eq (x2 : Vec F S64x4 .f32) : gtB arg2 harg2 x2 = x2 := by
  unfold gtB
  rw [Idealize.ShloMosaic.View.readAt_eq_ld, harg2.read_unread]
  exact ld_whole x2 ![0, 0] inb_S64x4_S64x4_0_0
/-- The loaded label block is the block. -/
theorem labB_eq (x3 : Vec F S64x21 .f32) : labB arg3 harg3 x3 = x3 := by
  unfold labB
  rw [Idealize.ShloMosaic.View.readAt_eq_ld, harg3.read_unread]
  exact ld_whole x3 ![0, 0] inb_S64x21_S64x21_0_0

/-- The quotients that a trip computes are those of its chunk. -/
theorem quot_eq (x0 : Vec F S64x4 .f32) (x1 : Vec F S4x160x128 .f32) (k : Fin k0_t1_loop.trips) :
    quot arg0 arg1 (harg0.unread (Val := Elt F) x0) (harg1.unread (Val := Elt F) x1) k = quotK x0 x1 k := by
  funext g
  unfold quot quotK ax1 ay1 ax2 ay2
  rw [coord_eq arg1 harg1 x1 0 k _ _ (k0_off1_eq k), coord_eq arg1 harg1 x1 1 k _ _ (k0_off2_eq k),
    coord_eq arg1 harg1 x1 2 k _ _ (k0_off3_eq k), coord_eq arg1 harg1 x1 3 k _ _ (k0_off4_eq k), word_eq arg0 harg0 x0 g]

variable (arg4 : Memref sig .tc .vmem S128x4 .f32) (harg4 : arg4.IsWhole) (arg5 : Memref sig .tc .vmem S128x21 .f32) (harg5 : arg5.IsWhole) (arg6 : Memref sig .tc .vmem S128x4 .f32) (harg6 : arg6.IsWhole)
  (arg7 : Memref sig .tc .vmem S160x128 .f32) (harg7 : arg7.IsWhole) (arg8 : Memref sig .tc .vmem S160x128 .f32) (harg8 : arg8.IsWhole) (arg9 : Memref sig .tc .vmem S160x128 .f32) (harg9 : arg9.IsWhole) (arg10 : Memref sig .tc .vmem S128x1 .i32) (harg10 : arg10.IsWhole)
  (x0 : Vec F S64x4 .f32) (x1 : Vec F S4x160x128 .f32) (x2 : Vec F S64x4 .f32) (x3 : Vec F S64x21 .f32)

/-- After the chunk loop the position block holds the positions of the maxima. -/
theorem asgB_eq : asgB c arg0 harg0 arg1 harg1 arg2 harg2 arg3 harg3 arg4 harg4 arg5 harg5 arg6 harg6 arg7 harg7 arg8 harg8 arg9 harg9 arg10 harg10 x0 x1 = asgK x0 x1 := by
  unfold asgB asgK
  refine (read_stack arg7.view (fun n => (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) n).1) (fun k => asgN (quotK x0 x1 k) 64 (Nat.le_refl _)) rfl ?_)
  intro k
  show (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) (k.val + 1)).1 = _
  rw [pb_k0_t1_succ]
  refine congrArg (· ++ _) ((trip_asg Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) k).trans ?_)
  rw [quot_eq arg0 harg0 arg1 harg1 x0 x1 k, shapeCast_self]

/-- After the chunk loop the foreground block holds the foreground scores. -/
theorem fgB_eq : fgB c arg0 harg0 arg1 harg1 arg2 harg2 arg3 harg3 arg4 harg4 arg5 harg5 arg6 harg6 arg7 harg7 arg8 harg8 arg9 harg9 arg10 harg10 x0 x1 = fgK x0 x1 := by
  unfold fgB fgK
  refine (read_stack arg8.view (fun n => (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) n).2.1) (fun k => fgOf (start k) (maxvN (quotK x0 x1 k) 64 (Nat.le_refl _))) rfl ?_)
  intro k
  show (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) (k.val + 1)).2.1 = _
  rw [pb_k0_t1_succ]
  refine congrArg (· ++ _) ((trip_fg Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) k).trans ?_)
  rw [quot_eq arg0 harg0 arg1 harg1 x0 x1 k, shapeCast_self]

/-- After the chunk loop the background block holds the background scores. -/
theorem bgB_eq : bgB c arg0 harg0 arg1 harg1 arg2 harg2 arg3 harg3 arg4 harg4 arg5 harg5 arg6 harg6 arg7 harg7 arg8 harg8 arg9 harg9 arg10 harg10 x0 x1 = bgK x0 x1 := by
  unfold bgB bgK
  refine (read_stack arg9.view (fun n => (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) n).2.2) (fun k => bgOf (start k) (maxvN (quotK x0 x1 k) 64 (Nat.le_refl _))) rfl ?_)
  intro k
  show (pb_k0_t1 (F := F) Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) (k.val + 1)).2.2 = _
  rw [pb_k0_t1_succ]
  refine congrArg (· ++ _) ((trip_bg Variants.none c none arg0 harg0 arg1 harg1 arg2 harg2 arg3 harg3 arg4 harg4 arg5 harg5 arg6 harg6 arg7 harg7 arg8 harg8 arg9 harg9 arg10 harg10 (harg0.unread (Val := Elt F) x0) (harg1.unread (Val := Elt F) x1) k).trans ?_)
  rw [quot_eq arg0 harg0 arg1 harg1 x0 x1 k, shapeCast_self]

/-- After the picks the index vector holds the picked positions. -/
theorem idxB_eq : idxB c arg0 harg0 arg1 harg1 arg2 harg2 arg3 harg3 arg4 harg4 arg5 harg5 arg6 harg6 arg7 harg7 arg8 harg8 arg9 harg9 arg10 harg10 x0 x1 = idxK x0 x1 := by
  unfold idxB idxK
  rw [fgB_eq, bgB_eq]
  exact read_slots arg10.view _ _

/-- The one-hot matrix that the body computes is the one of the picked boxes. -/
theorem hotB_eq : hotB c arg0 harg0 arg1 harg1 arg2 harg2 arg3 harg3 arg4 harg4 arg5 harg5 arg6 harg6 arg7 harg7 arg8 harg8 arg9 harg9 arg10 harg10 x0 x1 = hotK x0 x1 := by
  unfold hotB hotK
  rw [idxB_eq, asgB_eq]

/-- The first result block. -/
theorem out_rois : out0_A_4 c arg0 harg0 arg1 harg1 arg2 harg2 arg3 harg3 arg4 harg4 arg5 harg5 arg6 harg6 arg7 harg7 arg8 harg8 arg9 harg9 arg10 harg10 x0 x1 x2 x3 = roisK x0 x1 := by
  unfold out0_A_4
  rw [run_rois, idxB_eq, planeB_eq, View.read_writes_junk_eq_canon]
  funext y
  refine (View.canon_apply_of_pieces (Val := Elt F) (e := .f32) (roisK x0 x1) _ ?_ y ?_)
  · intro p hp x
    obtain rfl := List.mem_singleton.mp hp
    exact congrArg (roisK x0 x1) (funext fun a => Fin.ext (by
      match a with
      | ⟨0, _⟩ => show (x 0).val = 0 + 1 * (x 0).val; omega
      | ⟨1, _⟩ => show (x 1).val = 0 + 1 * (x 1).val; omega))
  · refine ⟨_, List.mem_singleton_self _, ?_⟩
    rw [Rect.mem_set_unit]
    intro a
    match a with
    | ⟨0, _⟩ => exact ⟨Nat.zero_le _, by have := (y 0).isLt; show (y 0).val < 0 + 128; have h : (y 0).val < 128 := this; omega⟩
    | ⟨1, _⟩ => exact ⟨Nat.zero_le _, by have := (y 1).isLt; show (y 1).val < 0 + 4; have h : (y 1).val < 4 := this; omega⟩

/-- Two stores of 64 rows each leave the rows of the one over the rows of the other. -/
theorem two_halves {n : Nat} (v : View sig .tc .vmem ⟨2, ![128, n]⟩ .f32) (lo hi : FVec F ⟨2, ![64, n]⟩ .f32) (out : FVec F ⟨2, ![128, n]⟩ .f32)
    (i0 : ∀ a, (![0, 0] : Fin 2 → Nat) a + (![64, n] : Fin 2 → Nat) a ≤ (![128, n] : Fin 2 → Nat) a)
    (i1 : ∀ a, (![64, 0] : Fin 2 → Nat) a + (![64, n] : Fin 2 → Nat) a ≤ (![128, n] : Fin 2 → Nat) a)
    (hlo : ∀ (a : Fin 64) (b : Fin n), lo (ix2 a b) = out (ix2 (n0 := 128) (n1 := n) ⟨a.val, by omega⟩ b))
    (hhi : ∀ (a : Fin 64) (b : Fin n), hi (ix2 a b) = out (ix2 (n0 := 128) (n1 := n) ⟨64 + a.val, by omega⟩ b)) :
    v.read (Elt F) (v.writes (Elt F) v.junk [⟨Rect.unit (s := ⟨2, ![128, n]⟩) ![64, 0] ![64, n] i1, hi⟩, ⟨Rect.unit (s := ⟨2, ![128, n]⟩) ![0, 0] ![64, n] i0, lo⟩]) = out := by
  rw [View.read_writes_junk_eq_canon]
  funext y
  refine (View.canon_apply_of_pieces (Val := Elt F) (e := .f32) out _ ?_ y ?_)
  · intro p hp x
    rcases List.mem_cons.mp hp with rfl | hp
    · obtain ⟨a, b, rfl⟩ : ∃ (a : Fin 64) (b : Fin n), x = ix2 (n0 := 64) (n1 := n) a b := ⟨x 0, x 1, eq_ix2 x⟩
      refine (hhi a b).trans (congrArg out (funext fun d => Fin.ext ?_))
      match d with
      | ⟨0, _⟩ => show 64 + a.val = 64 + 1 * a.val; omega
      | ⟨1, _⟩ => show b.val = 0 + 1 * b.val; omega
    · obtain rfl := List.mem_singleton.mp hp
      obtain ⟨a, b, rfl⟩ : ∃ (a : Fin 64) (b : Fin n), x = ix2 (n0 := 64) (n1 := n) a b := ⟨x 0, x 1, eq_ix2 x⟩
      refine (hlo a b).trans (congrArg out (funext fun d => Fin.ext ?_))
      match d with
      | ⟨0, _⟩ => show a.val = 0 + 1 * a.val; omega
      | ⟨1, _⟩ => show b.val = 0 + 1 * b.val; omega
  · have h0 : (y 0).val < 128 := (y 0).isLt
    have h1 : (y 1).val < n := (y 1).isLt
    by_cases h : (y 0).val < 64
    · refine ⟨_, List.mem_cons_of_mem _ (List.mem_singleton_self _), ?_⟩
      rw [Rect.mem_set_unit]
      intro a
      match a with
      | ⟨0, _⟩ => exact ⟨Nat.zero_le _, by show (y 0).val < 0 + 64; omega⟩
      | ⟨1, _⟩ => exact ⟨Nat.zero_le _, by show (y 1).val < 0 + n; omega⟩
    · refine ⟨_, List.mem_cons_self, ?_⟩
      rw [Rect.mem_set_unit]
      intro a
      match a with
      | ⟨0, _⟩ => exact ⟨by show 64 ≤ (y 0).val; omega, by show (y 0).val < 64 + 64; omega⟩
      | ⟨1, _⟩ => exact ⟨Nat.zero_le _, by show (y 1).val < 0 + n; omega⟩

/-- The second result block. -/
theorem out_labels : out0_A_5 c arg0 harg0 arg1 harg1 arg2 harg2 arg3 harg3 arg4 harg4 arg5 harg5 arg6 harg6 arg7 harg7 arg8 harg8 arg9 harg9 arg10 harg10 x0 x1 x2 x3 = labK x0 x1 x3 := by
  unfold out0_A_5
  rw [run_labels, hotB_eq, labB_eq]
  refine two_halves _ (labM (hotK x0 x1) x3) bgLab (labK x0 x1 x3) _ _ ?_ ?_
  · intro a b
    exact Eq.symm (dif_pos (c := (ix2 (n0 := 128) (n1 := 21) ⟨a.val, by omega⟩ b 0).val < 64) a.isLt)
  · intro a b
    refine Eq.symm ((dif_neg (c := (ix2 (n0 := 128) (n1 := 21) ⟨64 + a.val, by omega⟩ b 0).val < 64) (show ¬ 64 + a.val < 64 by omega)).trans
      (congrArg bgLab (ix2_congr (Fin.ext ?_) rfl)))
    show 64 + a.val - 64 = a.val
    omega

/-- The third result block. -/
theorem out_targets : out0_A_6 c arg0 harg0 arg1 harg1 arg2 harg2 arg3 harg3 arg4 harg4 arg5 harg5 arg6 harg6 arg7 harg7 arg8 harg8 arg9 harg9 arg10 harg10 x0 x1 x2 x3 = tgtK x0 x1 x2 := by
  unfold out0_A_6
  rw [run_targets, hotB_eq, gtB_eq, idxB_eq, planeB_eq]
  refine two_halves _ _ _ (tgtK x0 x1 x2) _ _ ?_ ?_
  · intro a b
    exact Eq.symm (dif_pos (c := (ix2 (n0 := 128) (n1 := 4) ⟨a.val, by omega⟩ b 0).val < 64) a.isLt)
  · intro a b
    exact Eq.symm (dif_neg (c := (ix2 (n0 := 128) (n1 := 4) ⟨64 + a.val, by omega⟩ b 0).val < 64) (show ¬ 64 + a.val < 64 by omega))

end

end Cert.KernelIdeal.Model

end
-- ==== Proof.KernelRun.lean ====
/- A run of the kernel program: its three results as functions of its three arguments. -/
module

public import proofs.«01_k».proof.Proof.Blocks
public import Idealize.ShloMosaic.Lib.Pipeline.ValueKit.Geometry

@[expose] public section

set_option maxRecDepth 100000

noncomputable section

namespace Cert.KernelIdeal.Model

open Idealize.ShloMosaic Idealize.ShloMosaic.TcCoe Idealize.ShloMosaic.Tactic Idealize.SL.Sem Cert.KernelIdeal Cert.KernelIdeal.Gen
open Idealize.ShloMosaic.Pipeline (Dat)

variable {F : FTy → Type} [FloatOps F]

/-- All boxes, padded with zeros to 20480, coordinate by coordinate and 128 to a row. -/
def planesOf (p : FVec F S1x20000x4 .f32) (g : FVec F S1x64x4 .f32) : FVec F S4x160x128 .f32 :=
  shapeCast S4x160x128 (transpose S4x20480 [1, 0]
    (pad S20480x4 ![0, 0] ![416, 0] ![0, 0]
      (concatenate S20064x4 0 [⟨S20000x4, shapeCast S20000x4 p shapeCasts_S1x20000x4_S20000x4⟩, ⟨S64x4, shapeCast S64x4 g shapeCasts_S1x64x4_S64x4⟩]
        concatenates_S20000x4_S64x4_S20064x4_d0)
      (sitofp (F := F) .f32 (constantI S_ 32 0#32)) pads_S20064x4_S20480x4_04160_000 h_S_)
    transposes_S20480x4_S4x20480_1_0) shapeCasts_S4x20480_S4x160x128
/-- The ground-truth boxes. -/
def gtsOf (g : FVec F S1x64x4 .f32) : FVec F S64x4 .f32 := shapeCast S64x4 g shapeCasts_S1x64x4_S64x4
/-- The ground-truth labels. -/
def labsOf (l : FVec F S1x64x21 .f32) : FVec F S64x21 .f32 := shapeCast S64x21 l shapeCasts_S1x64x21_S64x21

variable (m : (ℓ : Loc nD τ sig) → Buf (Elt F) ℓ) (ρ : Dev nD → PrngReg)

/-- The kernel is started on the coordinate planes of the two box arrays. -/
theorem V_planes (c : Dev nD) : V m c main_v5 = planesOf (m ((c : Thread nD τ).loc main_arg0)) (m ((c : Thread nD τ).loc main_arg1)) := by
  sl_kernel_rfl
/-- The kernel is started on the ground-truth boxes. -/
theorem V_gts (c : Dev nD) : V m c main_v6 = gtsOf (m ((c : Thread nD τ).loc main_arg1)) := by
  sl_kernel_rfl
/-- The kernel is started on the labels. -/
theorem V_labs (c : Dev nD) : V m c main_v7 = labsOf (m ((c : Thread nD τ).loc main_arg2)) := by
  sl_kernel_rfl

/-- The first result. -/
def out0 (p : FVec F S1x20000x4 .f32) (g : FVec F S1x64x4 .f32) : FVec F S1x128x4 .f32 :=
  broadcastInDim S1x128x4 ![1, 2] bcast_S128x4_S1x128x4_1_2 (roisK (gtsOf g) (planesOf p g))
/-- The second result. -/
def out1 (p : FVec F S1x20000x4 .f32) (g : FVec F S1x64x4 .f32) (l : FVec F S1x64x21 .f32) : FVec F S1x128x21 .f32 :=
  broadcastInDim S1x128x21 ![1, 2] bcast_S128x21_S1x128x21_1_2 (labK (gtsOf g) (planesOf p g) (labsOf l))
/-- The third result. -/
def out2 (p : FVec F S1x20000x4 .f32) (g : FVec F S1x64x4 .f32) : FVec F S1x128x4 .f32 :=
  broadcastInDim S1x128x4 ![1, 2] bcast_S128x4_S1x128x4_1_2 (tgtK (gtsOf g) (planesOf p g) (gtsOf g))

/-- The blocks that the body finds are the whole arrays. -/
theorem iblk0 (c : Dev nD) : iblk m c 0 t0_0 = gtsOf (m ((c : Thread nD τ).loc main_arg1)) := by
  rw [← V_gts m c]
  exact ld_whole (s := S64x4) (e := .f32) (V m c main_v6) (fun _ => 0) (by decide)
/-- The second block read is the array of planes. -/
theorem iblk1 (c : Dev nD) : iblk m c 1 t0_0 = planesOf (m ((c : Thread nD τ).loc main_arg0)) (m ((c : Thread nD τ).loc main_arg1)) := by
  rw [← V_planes m c]
  exact ld_whole (s := S4x160x128) (e := .f32) (V m c main_v5) (fun _ => 0) (by decide)
/-- The third block read is the array of ground-truth boxes. -/
theorem iblk2 (c : Dev nD) : iblk m c 2 t0_0 = gtsOf (m ((c : Thread nD τ).loc main_arg1)) := by
  rw [← V_gts m c]
  exact ld_whole (s := S64x4) (e := .f32) (V m c main_v6) (fun _ => 0) (by decide)
/-- The fourth block read is the array of labels. -/
theorem iblk3 (c : Dev nD) : iblk m c 3 t0_0 = labsOf (m ((c : Thread nD τ).loc main_arg2)) := by
  rw [← V_labs m c]
  exact ld_whole (s := S64x21) (e := .f32) (V m c main_v7) (fun _ => 0) (by decide)

/-- The first result array ends as the block of boxes. -/
theorem arr4 (c : Dev nD) : (dats m 0 c).arrAt 4 cfg0.N
    = roisK (gtsOf (m ((c : Thread nD τ).loc main_arg1))) (planesOf (m ((c : Thread nD τ).loc main_arg0)) (m ((c : Thread nD τ).loc main_arg1))) := by
  refine Dat.arrAt_eq_of_after_last (dats m 0 c) 4 t0_0 (by decide +kernel) _ ?_
  intro j
  rw [after0_4]
  unfold outsAt0
  rw [out_rois, iblk0, iblk1]
  rfl
/-- The second result array ends as the block of labels. -/
theorem arr5 (c : Dev nD) : (dats m 0 c).arrAt 5 cfg0.N
    = labK (gtsOf (m ((c : Thread nD τ).loc main_arg1))) (planesOf (m ((c : Thread nD τ).loc main_arg0)) (m ((c : Thread nD τ).loc main_arg1)))
        (labsOf (m ((c : Thread nD τ).loc main_arg2))) := by
  refine Dat.arrAt_eq_of_after_last (dats m 0 c) 5 t0_0 (by decide +kernel) _ ?_
  intro j
  rw [after0_5]
  unfold outsAt0
  rw [out_labels, iblk0, iblk1, iblk3]
  rfl
/-- The third result array ends as the block of box targets. -/
theorem arr6 (c : Dev nD) : (dats m 0 c).arrAt 6 cfg0.N
    = tgtK (gtsOf (m ((c : Thread nD τ).loc main_arg1))) (planesOf (m ((c : Thread nD τ).loc main_arg0)) (m ((c : Thread nD τ).loc main_arg1)))
        (gtsOf (m ((c : Thread nD τ).loc main_arg1))) := by
  refine Dat.arrAt_eq_of_after_last (dats m 0 c) 6 t0_0 (by decide +kernel) _ ?_
  intro j
  rw [after0_6]
  unfold outsAt0
  rw [out_targets, iblk0, iblk1, iblk2]
  rfl

/-- What the region leaves in a window's array is what the host operations after it find there. -/
theorem left (c : Dev nD) (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Dat.withArrays_arrAt (dats m 0 c) (by decide) (V0 m c) (fun w => A_eq m c w) w

/-- A run of the kernel leaves the three functions of its arguments in its results, and its arguments unchanged. -/
theorem values : θ_run defs (onTc (τ := τ) (main (F := F))) ⟨m, fun _ => 0, ρ⟩ (fun r => ∀ c : Dev nD,
      r.2.mem ((c.tc : Thread nD τ).loc main_v9) = out0 (m ((c.tc : Thread nD τ).loc main_arg0)) (m ((c.tc : Thread nD τ).loc main_arg1))
      ∧ r.2.mem ((c.tc : Thread nD τ).loc main_v10) = out1 (m ((c.tc : Thread nD τ).loc main_arg0)) (m ((c.tc : Thread nD τ).loc main_arg1)) (m ((c.tc : Thread nD τ).loc main_arg2))
      ∧ r.2.mem ((c.tc : Thread nD τ).loc main_v11) = out2 (m ((c.tc : Thread nD τ).loc main_arg0)) (m ((c.tc : Thread nD τ).loc main_arg1))) := by
  refine (θ_run defs _ _).mono (fun r h c => ?_) (run_main m ρ)
  refine ⟨((h c).2 main_v9 (Pipeline.mem_restRefs_of main_v9 (by decide) (by decide))).trans ?_,
    ((h c).2 main_v10 (Pipeline.mem_restRefs_of main_v10 (by decide) (by decide))).trans ?_,
    ((h c).2 main_v11 (Pipeline.mem_restRefs_of main_v11 (by decide) (by decide))).trans ?_⟩
  · refine Eq.trans (b := broadcastInDim S1x128x4 ![1, 2] bcast_S128x4_S1x128x4_1_2 (Pipeline.withArrays cfg0.spec c (V0 m c) (fun w => (dats m 0 c).arrAt w cfg0.N) (Proc.devRef .tc (Pipeline.arrRef cfg0.spec 4)))) ?_ ?_
    · sl_kernel_rfl
    · rw [left, arr4]; rfl
  · refine Eq.trans (b := broadcastInDim S1x128x21 ![1, 2] bcast_S128x21_S1x128x21_1_2 (Pipeline.withArrays cfg0.spec c (V0 m c) (fun w => (dats m 0 c).arrAt w cfg0.N) (Proc.devRef .tc (Pipeline.arrRef cfg0.spec 5)))) ?_ ?_
    · sl_kernel_rfl
    · rw [left, arr5]; rfl
  · refine Eq.trans (b := broadcastInDim S1x128x4 ![1, 2] bcast_S128x4_S1x128x4_1_2 (Pipeline.withArrays cfg0.spec c (V0 m c) (fun w => (dats m 0 c).arrAt w cfg0.N) (Proc.devRef .tc (Pipeline.arrRef cfg0.spec 6)))) ?_ ?_
    · sl_kernel_rfl
    · rw [left, arr6]; rfl

end Cert.KernelIdeal.Model

end
-- ==== Proof.RefModel.lean ====
/- What the reference computes, as functions of whole arrays: the table of overlap quotients, each box's best
   ground-truth box, the two scores, the kept positions, and the three results. -/
module

public import proofs.«01_k».proof.Defs
public import proofs.«01_k».proof.Proof.Gen.ReferenceIdeal

@[expose] public section

noncomputable section

namespace Cert.ReferenceIdeal.Spec

open Idealize.ShloMosaic Idealize.SL.Sem Cert.ReferenceIdeal Cert.ReferenceIdeal.Facts₀

variable {F : FTy → Type} [FloatOps F]

/-! ## The table of overlap quotients -/

/-- All boxes: the proposals and after them the ground-truth boxes. -/
def boxes (p : FVec F S1x20000x4 .f32) (g : FVec F S1x64x4 .f32) : FVec F S20064x4 .f32 :=
  shapeCast S20064x4 (concatenate S1x20064x4 1 [⟨S1x20000x4, p⟩, ⟨S1x64x4, g⟩] concatenates_S1x20000x4_S1x64x4_S1x20064x4_d1)
    shapeCasts_S1x20064x4_S20064x4
/-- The ground-truth boxes. -/
def gts (g : FVec F S1x64x4 .f32) : FVec F S64x4 .f32 := shapeCast S64x4 g shapeCasts_S1x64x4_S64x4
/-- The ground-truth labels. -/
def labs (l : FVec F S1x64x21 .f32) : FVec F S64x21 .f32 := shapeCast S64x21 l shapeCasts_S1x64x21_S64x21

/-- One coordinate of all boxes. -/
def bcol (x : FVec F S20064x4 .f32) (o : Nat) (h : S20064x4.Slices ![0, o] S20064x1) : FVec F S20064 .f32 :=
  shapeCast S20064 (extractStridedSlice S20064x1 ![0, o] x h) shapeCasts_S20064x1_S20064
/-- One coordinate of the ground-truth boxes. -/
def gcol (x : FVec F S64x4 .f32) (o : Nat) (h : S64x4.Slices ![0, o] S64x1) : FVec F S64 .f32 :=
  shapeCast S64 (extractStridedSlice S64x1 ![0, o] x h) shapeCasts_S64x1_S64
/-- A constant over all boxes. -/
def bk (b : BitVec 32) : FVec F S20064 .f32 := broadcastInDim S20064 ![] bcast_S_S20064 (constant S_ .f32 b)
/-- A constant over the ground-truth boxes. -/
def gk (b : BitVec 32) : FVec F S64 .f32 := broadcastInDim S64 ![] bcast_S_S64 (constant S_ .f32 b)
/-- A constant over the table. -/
def tk (b : BitVec 32) : FVec F S20064x64 .f32 := broadcastInDim S20064x64 ![] bcast_S_S20064x64 (constant S_ .f32 b)
/-- A number per box, in every column of the table. -/
def brow (x : FVec F S20064 .f32) : FVec F S20064x64 .f32 :=
  broadcastInDim S20064x64 ![0, 1] bcast_S20064x1_S20064x64_0_1 (broadcastInDim S20064x1 ![0] bcast_S20064_S20064x1_0 x)
/-- A number per ground-truth box, in every row of the table. -/
def grow (x : FVec F S64 .f32) : FVec F S20064x64 .f32 :=
  broadcastInDim S20064x64 ![0, 1] bcast_S1x64_S20064x64_0_1 (broadcastInDim S1x64 ![1] bcast_S64_S1x64_1 x)

/-- The areas of all boxes. -/
def areaX (x : FVec F S20064x4 .f32) : FVec F S20064 .f32 :=
  mulf (addf (subf (bcol x 2 slices_S20064x4_S20064x1_0_2) (bcol x 0 slices_S20064x4_S20064x1_0_0)) (bk 0x3F800000#32))
    (addf (subf (bcol x 3 slices_S20064x4_S20064x1_0_3) (bcol x 1 slices_S20064x4_S20064x1_0_1)) (bk 0x3F800000#32))
/-- The areas of the ground-truth boxes. -/
def areaG (g : FVec F S64x4 .f32) : FVec F S64 .f32 :=
  mulf (addf (subf (gcol g 2 slices_S64x4_S64x1_0_2) (gcol g 0 slices_S64x4_S64x1_0_0)) (gk 0x3F800000#32))
    (addf (subf (gcol g 3 slices_S64x4_S64x1_0_3) (gcol g 1 slices_S64x4_S64x1_0_1)) (gk 0x3F800000#32))

/-- The overlap lengths along one axis. -/
def over (lo hi : FVec F S20064 .f32) (l h : FVec F S64 .f32) : FVec F S20064x64 .f32 :=
  maximumf (addf (subf (minimumf (brow hi) (grow h)) (maximumf (brow lo) (grow l))) (tk 0x3F800000#32)) (tk 0x00000000#32)
/-- The overlap areas. -/
def inter (x : FVec F S20064x4 .f32) (g : FVec F S64x4 .f32) : FVec F S20064x64 .f32 :=
  mulf
    (over (bcol x 0 slices_S20064x4_S20064x1_0_0) (bcol x 2 slices_S20064x4_S20064x1_0_2)
      (gcol g 0 slices_S64x4_S64x1_0_0) (gcol g 2 slices_S64x4_S64x1_0_2))
    (over (bcol x 1 slices_S20064x4_S20064x1_0_1) (bcol x 3 slices_S20064x4_S20064x1_0_3)
      (gcol g 1 slices_S64x4_S64x1_0_1) (gcol g 3 slices_S64x4_S64x1_0_3))
/-- The overlap quotients. -/
def table (x : FVec F S20064x4 .f32) (g : FVec F S64x4 .f32) : FVec F S20064x64 .f32 :=
  Host.divf (inter x g) (maximumf (subf (addf (brow (areaX x)) (grow (areaG g))) (inter x g)) (tk 0x322BCC77#32))

/-! ## Best ground-truth box, scores, kept positions -/

/-- Each box's first best ground-truth box. -/
def best (q : FVec F S20064x64 .f32) : IVec S20064 32 := fun j =>
  (Host.argReduce reducer_argmax_f32_i32 q (iotaInDim S20064x64 32 1) (constant S_ .f32 0xFF800000#32) (constantI S_ 32 0#32)
    reducesTo_S20064x64_S20064_d1 h_S_ j).2
/-- Each box's greatest quotient. -/
def top (q : FVec F S20064x64 .f32) : FVec F S20064 .f32 :=
  Host.reduce FloatOps.maximumf q (constant S_ .f32 0xFF800000#32) reducesTo_S20064x64_S20064_d1 h_S_
/-- The foreground score. -/
def fgS (t : FVec F S20064 .f32) : FVec F S20064 .f32 :=
  select (cmpf .oge t (bk 0x3F333333#32)) t (bk 0xBF800000#32)
/-- The background score. -/
def bgS (t : FVec F S20064 .f32) : FVec F S20064 .f32 :=
  select (andi (cmpf .olt t (bk 0x3F000000#32)) (cmpf .oge t (bk 0x3DCCCCCD#32))) t (bk 0xBF800000#32)
/-- The positions of the 64 greatest scores, first positions first among equals. -/
def first64 (s : FVec F S20064 .f32) : IVec S64 32 :=
  (Host.topK S64 0 (FloatOps.cmpfTotal .gt) s sliceFits_S20064_S64).2
/-- The kept positions: 64 foreground ones, then 64 background ones. -/
def keep (t : FVec F S20064 .f32) : IVec S128 32 :=
  concatenate S128 0 [⟨S64, first64 (fgS t)⟩, ⟨S64, first64 (bgS t)⟩] concatenates_S64_S64_S128_d0

/-! ## Looking up rows -/

/-- A whole number at 128 places. -/
def ik (n : BitVec 32) : IVec S128 32 := broadcastInDim S128 ![] bcast_S_S128 (constantI S_ 32 n)
/-- Positions as a column, a negative one counted from the end of `n` rows. -/
def wrap (n : BitVec 32) (i : IVec S128 32) : IVec S128x1 32 :=
  broadcastInDim S128x1 ![0] bcast_S128_S128x1_0 (select (cmpi .slt i (ik 0#32)) (addi i (ik n)) i)
/-- Which positions lie between 0 and `n`. -/
def within (n : BitVec 32) (w : IVec S128x1 32) : IVec S128 1 :=
  Host.reduce IntOp.andi
    (andi (cmpi .sge w (broadcastInDim S128x1 ![] bcast_S_S128x1 (constantI S_ 32 0#32)))
      (cmpi .sle w (broadcastInDim S128x1 ![0, 1] bcast_S1x1_S128x1_0_1 (broadcastInDim S1x1 ![1] bcast_S1_S1x1_1 (constantI S1 32 n)))))
    (constantI S_ 1 1#1) reducesTo_S128x1_S128_d1 h_S_
/-- The chosen rows of the boxes. -/
def takeBox (x : FVec F S20064x4 .f32) (i : IVec S128 32) : FVec F S128x4 .f32 :=
  select (broadcastInDim S128x4 ![0] bcast_S128_S128x4_0 (within 20063#32 (wrap 20064#32 i)))
    (Host.gather gather_S20064x4_S128x1_S128x4_1_0_n_n_0_1_14 x (wrap 20064#32 i))
    (broadcastInDim S128x4 ![] bcast_S_S128x4 (constant S_ .f32 0x7FC00000#32))
/-- The chosen rows of the per-box labels. -/
def takeLab (x : FVec F S20064x21 .f32) (i : IVec S128 32) : FVec F S128x21 .f32 :=
  select (broadcastInDim S128x21 ![0] bcast_S128_S128x21_0 (within 20063#32 (wrap 20064#32 i)))
    (Host.gather gather_S20064x21_S128x1_S128x21_1_0_n_n_0_1_121 x (wrap 20064#32 i))
    (broadcastInDim S128x21 ![] bcast_S_S128x21 (constant S_ .f32 0x7FC00000#32))
/-- The chosen entries of the best ground-truth boxes. -/
def takeBest (x : IVec S20064 32) (i : IVec S128 32) : IVec S128 32 :=
  select (within 20063#32 (wrap 20064#32 i)) (Host.gather gather_S20064_S128x1_S128_n_0_n_n_0_1_1 x (wrap 20064#32 i))
    (ik 2147483648#32)
/-- The chosen rows of the ground-truth boxes. -/
def takeGt (x : FVec F S64x4 .f32) (i : IVec S128 32) : FVec F S128x4 .f32 :=
  select (broadcastInDim S128x4 ![0] bcast_S128_S128x4_0 (within 63#32 (wrap 64#32 i)))
    (Host.gather gather_S64x4_S128x1_S128x4_1_0_n_n_0_1_14 x (wrap 64#32 i))
    (broadcastInDim S128x4 ![] bcast_S_S128x4 (constant S_ .f32 0x7FC00000#32))
/-- Positions among the ground-truth boxes as a column, one per box. -/
def wrapAll (i : IVec S20064 32) : IVec S20064x1 32 :=
  broadcastInDim S20064x1 ![0] bcast_S20064_S20064x1_0
    (select (cmpi .slt i (broadcastInDim S20064 ![] bcast_S_S20064 (constantI S_ 32 0#32)))
      (addi i (broadcastInDim S20064 ![] bcast_S_S20064 (constantI S_ 32 64#32))) i)
/-- Which of them lie in range. -/
def withinAll (w : IVec S20064x1 32) : IVec S20064 1 :=
  Host.reduce IntOp.andi
    (andi (cmpi .sge w (broadcastInDim S20064x1 ![] bcast_S_S20064x1 (constantI S_ 32 0#32)))
      (cmpi .sle w (broadcastInDim S20064x1 ![0, 1] bcast_S1x1_S20064x1_0_1
        (broadcastInDim S1x1 ![1] bcast_S1_S1x1_1 (constantI S1 32 63#32)))))
    (constantI S_ 1 1#1) reducesTo_S20064x1_S20064_d1 h_S_
/-- Each box's label: that of its best ground-truth box. -/
def labAll (l : FVec F S64x21 .f32) (i : IVec S20064 32) : FVec F S20064x21 .f32 :=
  select (broadcastInDim S20064x21 ![0] bcast_S20064_S20064x21_0 (withinAll (wrapAll i)))
    (Host.gather gather_S64x21_S20064x1_S20064x21_1_0_n_n_0_1_121 l (wrapAll i))
    (broadcastInDim S20064x21 ![] bcast_S_S20064x21 (constant S_ .f32 0x7FC00000#32))

/-! ## The three results -/

/-- Which of the 128 rows are foreground. -/
def isFg : IVec S128 1 := cmpi .slt (iotaInDim S128 32 0) (ik 64#32)
/-- The same as a column. -/
def isFgC : IVec S128x1 1 := broadcastInDim S128x1 ![0] bcast_S128_S128x1_0 isFg
/-- The background label. -/
def hot0 : FVec F S21 .f32 :=
  uitofp .f32 (cmpi .eq (broadcastInDim S21 ![0] bcast_S1_S21_0 (broadcastInDim S1 ![] bcast_S_S1 (constantI S_ 32 0#32)))
    (iotaInDim S21 32 0))
/-- The labels of the kept rows. -/
def labOut (x : FVec F S128x21 .f32) : FVec F S128x21 .f32 :=
  select (broadcastInDim S128x21 ![0, 1] bcast_S128x1_S128x21_0_1 isFgC) x
    (broadcastInDim S128x21 ![0, 1] bcast_S1x21_S128x21_0_1 (broadcastInDim S1x21 ![1] bcast_S21_S1x21_1 hot0))

/-- One coordinate of 128 boxes. -/
def kcol (x : FVec F S128x4 .f32) (o : Nat) (h : S128x4.Slices ![0, o] S128x1) : FVec F S128 .f32 :=
  shapeCast S128 (extractStridedSlice S128x1 ![0, o] x h) shapeCasts_S128x1_S128
/-- A constant at 128 places. -/
def kk (b : BitVec 32) : FVec F S128 .f32 := broadcastInDim S128 ![] bcast_S_S128 (constant S_ .f32 b)
/-- The extents of 128 boxes along one axis. -/
def extent (lo hi : FVec F S128 .f32) : FVec F S128 .f32 := addf (subf hi lo) (kk 0x3F800000#32)
/-- Their centres along one axis. -/
def centre (lo hi : FVec F S128 .f32) : FVec F S128 .f32 := addf lo (mulf (kk 0x3F000000#32) (extent lo hi))
/-- A column. -/
def up (x : FVec F S128 .f32) : FVec F S128x1 .f32 := broadcastInDim S128x1 ![0] bcast_S128_S128x1_0 x
/-- The regression targets of boxes `x` towards boxes `g`. -/
def transform (x g : FVec F S128x4 .f32) : FVec F S128x4 .f32 :=
  let x0 := kcol x 0 slices_S128x4_S128x1_0_0
  let x1 := kcol x 1 slices_S128x4_S128x1_0_1
  let x2 := kcol x 2 slices_S128x4_S128x1_0_2
  let x3 := kcol x 3 slices_S128x4_S128x1_0_3
  let g0 := kcol g 0 slices_S128x4_S128x1_0_0
  let g1 := kcol g 1 slices_S128x4_S128x1_0_1
  let g2 := kcol g 2 slices_S128x4_S128x1_0_2
  let g3 := kcol g 3 slices_S128x4_S128x1_0_3
  concatenate S128x4 1
    [⟨S128x1, up (Host.divf (subf (centre g0 g2) (centre x0 x2)) (extent x0 x2))⟩,
     ⟨S128x1, up (Host.divf (subf (centre g1 g3) (centre x1 x3)) (extent x1 x3))⟩,
     ⟨S128x1, up (Host.log (Host.divf (extent g0 g2) (extent x0 x2)))⟩,
     ⟨S128x1, up (Host.log (Host.divf (extent g1 g3) (extent x1 x3)))⟩]
    concatenates_S128x1_S128x1_S128x1_S128x1_S128x4_d1
/-- The targets of the kept rows: zero in the background ones. -/
def tgtOut (t : FVec F S128x4 .f32) : FVec F S128x4 .f32 :=
  select (broadcastInDim S128x4 ![0, 1] bcast_S128x1_S128x4_0_1 isFgC) t
    (broadcastInDim S128x4 ![] bcast_S_S128x4 (constant S_ .f32 0x00000000#32))

/-- The kept boxes. -/
def rois (p : FVec F S1x20000x4 .f32) (g : FVec F S1x64x4 .f32) : FVec F S128x4 .f32 :=
  takeBox (boxes p g) (keep (top (table (boxes p g) (gts g))))
/-- The kept labels. -/
def labels (p : FVec F S1x20000x4 .f32) (g : FVec F S1x64x4 .f32) (l : FVec F S1x64x21 .f32) : FVec F S128x21 .f32 :=
  labOut (takeLab (labAll (labs l) (best (table (boxes p g) (gts g)))) (keep (top (table (boxes p g) (gts g)))))
/-- The kept targets. -/
def targets (p : FVec F S1x20000x4 .f32) (g : FVec F S1x64x4 .f32) : FVec F S128x4 .f32 :=
  tgtOut (transform (rois p g)
    (takeGt (gts g) (takeBest (best (table (boxes p g) (gts g))) (keep (top (table (boxes p g) (gts g)))))))

/-- The first result. -/
def out0 (p : FVec F S1x20000x4 .f32) (g : FVec F S1x64x4 .f32) : FVec F S1x128x4 .f32 :=
  broadcastInDim S1x128x4 ![1, 2] bcast_S128x4_S1x128x4_1_2 (rois p g)
/-- The second result. -/
def out1 (p : FVec F S1x20000x4 .f32) (g : FVec F S1x64x4 .f32) (l : FVec F S1x64x21 .f32) : FVec F S1x128x21 .f32 :=
  broadcastInDim S1x128x21 ![1, 2] bcast_S128x21_S1x128x21_1_2 (labels p g l)
/-- The third result. -/
def out2 (p : FVec F S1x20000x4 .f32) (g : FVec F S1x64x4 .f32) : FVec F S1x128x4 .f32 :=
  broadcastInDim S1x128x4 ![1, 2] bcast_S128x4_S1x128x4_1_2 (targets p g)

end Cert.ReferenceIdeal.Spec

end
-- ==== Proof.RefRun.lean ====
/- The reference ends with its three results equal to the array functions of the specification, and its arguments as they
   were. -/
module

public import proofs.«01_k».proof.Proof.RefModel
public import Idealize.ShloMosaic.Lib.Claim
public import Idealize.ShloMosaic.Lib.Quiescent

@[expose] public section

set_option maxRecDepth 16384

noncomputable section

namespace Cert.ReferenceIdeal.Host

open Idealize.ShloMosaic Idealize.ShloMosaic.Tactic Idealize.SL.Sem Cert.ReferenceIdeal

set_option maxHeartbeats 8000000 in
/-- The reference's results. -/
theorem values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v177)
          = Spec.out0 (F := Ideal) (m ((c.tc : Thread nD τ).loc main_arg0)) (m ((c.tc : Thread nD τ).loc main_arg1))
      ∧ r.2.mem ((c.tc : Thread nD τ).loc main_v178)
          = Spec.out1 (F := Ideal) (m ((c.tc : Thread nD τ).loc main_arg0)) (m ((c.tc : Thread nD τ).loc main_arg1))
              (m ((c.tc : Thread nD τ).loc main_arg2))
      ∧ r.2.mem ((c.tc : Thread nD τ).loc main_v179)
          = Spec.out2 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Idealize.ShloMosaic.θ_run_mono (StableHlo.run_hlo _ _ (by hlo_seq) (by decide) (by decide) (by simp)
    (by intro _ h; (repeat (cases h with | head => rfl | tail _ h => ?_)); exact nomatch h) m ρ) ?_
  intro r hr c
  refine ⟨(hr c _).trans ?_, (hr c _).trans ?_, (hr c _).trans ?_, (hr c _).trans ?_, (hr c _).trans ?_, (hr c _).trans ?_⟩
  · sl_kernel_rfl
  · sl_kernel_rfl
  · sl_kernel_rfl
  · sl_kernel_rfl
  · sl_kernel_rfl
  · sl_kernel_rfl

end Cert.ReferenceIdeal.Host

end
-- ==== Proof.Pick.lean ====
/- Picking the greatest entry again and again, the first among equals each time, and lowering each picked entry: the
   picked positions are the first ones of the stable descending sort. -/
module

public import Idealize.ShloMosaic.Lib.SortFacts
public import Idealize.ShloMosaic.Lib.SortPrefix
public import Mathlib.Data.EReal.Basic
public import Mathlib.Data.Fintype.Card

@[expose] public section

namespace Cert.Pick

open Idealize.ShloMosaic

/-- Position `i` holds the greatest entry, and no earlier position does. -/
def First {n : Nat} (q : Fin n → EReal) (i : Fin n) : Prop := (∀ m, q m ≤ q i) ∧ ∀ m, m < i → q m < q i

/-- There is only one such position. -/
theorem First.unique {n : Nat} {q : Fin n → EReal} {i j : Fin n} (hi : First q i) (hj : First q j) : i = j := by
  rcases lt_trichotomy i j with h | h | h
  · exact absurd (hi.1 j) (not_le.mpr (hj.2 i h))
  · exact h
  · exact absurd (hj.1 i) (not_le.mpr (hi.2 j h))

section
variable {N n : Nat} (hn : n ≤ N) (s : Fin n → EReal) (lo : EReal) (hs : ∀ i, lo < s i) (v : Nat → Fin N → EReal) (p : Nat → Fin N)
  (h0 : ∀ i, v 0 i = if h : i.val < n then s ⟨i.val, h⟩ else lo) (hp : ∀ j, First (v j) (p j))
  (hv : ∀ j i, v (j + 1) i = if i = p j then lo else v j i)
include h0 hp hv hs

omit h0 hp hs in
/-- A position that was picked holds the low value from then on. -/
theorem picked_low (j : Nat) (i : Fin N) : (∃ t, t < j ∧ p t = i) → v j i = lo := by
  induction j with
  | zero => rintro ⟨t, ht, _⟩; exact absurd ht (Nat.not_lt_zero t)
  | succ j ih =>
    rintro ⟨t, ht, e⟩
    rw [hv]
    split
    · rfl
    · rename_i hne
      refine ih ⟨t, ?_, e⟩
      rcases Nat.lt_succ_iff_lt_or_eq.mp ht with h | h
      · exact h
      · exact absurd (by rw [← e, h]) hne

omit h0 hp hs in
/-- A position that was not picked still holds its first value. -/
theorem unpicked_same (j : Nat) (i : Fin N) : (∀ t, t < j → p t ≠ i) → v j i = v 0 i := by
  induction j with
  | zero => intro _; rfl
  | succ j ih =>
    intro h
    rw [hv, if_neg fun e => h j (Nat.lt_succ_self j) e.symm]
    exact ih fun t ht => h t (Nat.lt_succ_of_lt ht)

include hn in
/-- The `j`-th pick is a new position below `n`. -/
theorem pick_new (j : Nat) (hj : j < n) : (p j).val < n ∧ ∀ t, t < j → p t ≠ p j := by
  have hex : ∃ i : Fin n, ∀ t, t < j → p t ≠ Fin.castLE hn i := by
    by_contra hc
    push Not at hc
    choose f hf hf' using hc
    have hinj : Function.Injective fun i : Fin n => (⟨f i, hf i⟩ : Fin j) := by
      intro a b hab
      have e : f a = f b := congrArg Fin.val hab
      have := (hf' a).symm.trans ((congrArg p e).trans (hf' b))
      exact Fin.castLE_injective hn this
    have := Fintype.card_le_of_injective _ hinj
    simp only [Fintype.card_fin] at this
    omega
  obtain ⟨i, hi⟩ := hex
  have e1 : v j (Fin.castLE hn i) = s i := by
    rw [unpicked_same lo v p hv j _ hi, h0, dif_pos (show (Fin.castLE hn i).val < n from i.isLt)]
    rfl
  have hlo : lo < v j (p j) := lt_of_lt_of_le (e1 ▸ hs i) ((hp j).1 _)
  have hnew : ∀ t, t < j → p t ≠ p j := fun t ht e => absurd (picked_low lo v p hv j (p j) ⟨t, ht, e⟩) hlo.ne'
  refine ⟨?_, hnew⟩
  by_contra hge
  rw [unpicked_same lo v p hv j _ hnew, h0, dif_neg hge] at hlo
  exact lt_irrefl _ hlo

include hn in
/-- Nothing not picked earlier comes before the `j`-th pick. -/
theorem pick_first (j : Nat) (hj : j < n) (i : Fin n) (hi : ∀ t, t < j → (p t).val ≠ i.val) (h : (p j).val < n) :
    s i < s ⟨(p j).val, h⟩ ∨ (s i = s ⟨(p j).val, h⟩ ∧ (p j).val ≤ i.val) := by
  have hnew := (pick_new hn s lo hs v p h0 hp hv j hj).2
  have e1 : v j (Fin.castLE hn i) = s i := by
    rw [unpicked_same lo v p hv j _ fun t ht e => hi t ht (by rw [e]; rfl), h0,
      dif_pos (show (Fin.castLE hn i).val < n from i.isLt)]
    rfl
  have e2 : v j (p j) = s ⟨(p j).val, h⟩ := by
    rw [unpicked_same lo v p hv j _ hnew, h0, dif_pos h]
  rcases lt_or_ge i.val (p j).val with hlt | hge
  · left
    have := (hp j).2 (Fin.castLE hn i) hlt
    rwa [e1, e2] at this
  · have := (hp j).1 (Fin.castLE hn i)
    rw [e1, e2] at this
    rcases lt_or_eq_of_le this with h' | h'
    · exact Or.inl h'
    · exact Or.inr ⟨h', hge⟩

/-- The comparison by value alone, descending. -/
noncomputable def gtB (s : Fin n → EReal) (a b : Fin n) : Bool := decide (s b < s a)
/-- The comparison by value descending, then by position. -/
noncomputable def gtThen (s : Fin n → EReal) (a b : Fin n) : Bool := decide (s b < s a) || (decide (s a = s b) && decide (a < b))

omit hs h0 hp hv in
/-- The comparison by value and then position is a strict total order. -/
theorem gtThen_total : StrictTotalBefore (gtThen s) := by
  classical
  have h := StrictTotalBefore.of_key_then_position (n := n) (fun a b : EReal => decide (b < a)) s
    (fun a => by simp) (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  have e : gtThen s = fun k k' : Fin n => decide (s k' < s k) || (decide (s k = s k') && decide (k < k')) := by
    funext a b
    unfold gtThen
    congr 2
  rw [e]
  convert h using 5

omit hs h0 hp hv in
/-- The stable sort that compares by value alone keeps equal entries in position order. -/
theorem stableSort_gt (l : List (Fin n)) (hl : l.Pairwise (· < ·)) : stableSort (gtB s) l = stableSort (gtThen s) l := by
  induction l with
  | nil => rfl
  | cons a l ih =>
    rw [List.pairwise_cons] at hl
    unfold stableSort
    rw [ih hl.2]
    refine insertBefore_congr _ _ a _ fun b hb => ?_
    have hb' : b ∈ l := (perm_stableSort (gtThen s) l).mem_iff.mp hb
    have := hl.1 b hb'
    unfold gtB gtThen
    rw [show decide (b < a) = false from decide_eq_false (not_lt.mpr this.le), Bool.and_false, Bool.or_false]

omit hs h0 hp hv in
/-- Both comparisons sort to the same positions. -/
theorem sortedFrom_gt (i : Fin n) : sortedFrom (gtB s) i = sortedFrom (gtThen s) i := by
  have h : sortPositions n (gtB s) = sortPositions n (gtThen s) := stableSort_gt s _ (List.pairwise_lt_finRange n)
  unfold sortedFrom
  rw [List.get_of_eq h]
  rfl

include hn in
/-- The picked positions are the sort's first ones. -/
theorem sorted_eq_pick (k : Nat) (hk : k ≤ n) (j : Fin k) : (sortedFrom (gtB s) (j.castLE hk)).val = (p j.val).val := by
  have hlt : ∀ j : Fin k, (p j.val).val < n := fun j =>
    (pick_new hn s lo hs v p h0 hp hv j.val (Nat.lt_of_lt_of_le j.isLt hk)).1
  have hne : ∀ i j : Fin k, i < j → p i.val ≠ p j.val := fun i j h =>
    (pick_new hn s lo hs v p h0 hp hv j.val (Nat.lt_of_lt_of_le j.isLt hk)).2 i.val h
  have hf : ∀ (j : Fin k) (i : Fin n), (∀ t, t < j.val → (p t).val ≠ i.val) → (p j.val).val ≠ i.val →
      gtThen s i ⟨(p j.val).val, hlt j⟩ = false := by
    intro j i hi hji
    have h := pick_first hn s lo hs v p h0 hp hv j.val (Nat.lt_of_lt_of_le j.isLt hk) i hi (hlt j)
    unfold gtThen
    rw [Bool.or_eq_false_iff]
    rcases h with h | ⟨h, h'⟩
    · exact ⟨decide_eq_false (not_lt.mpr h.le), by rw [decide_eq_false h.ne]; rfl⟩
    · refine ⟨decide_eq_false (not_lt.mpr h.le), ?_⟩
      have : ¬ i < (⟨(p j.val).val, hlt j⟩ : Fin n) := by
        intro h2
        have : i.val < (p j.val).val := h2
        omega
      rw [decide_eq_false this, Bool.and_false]
  rw [sortedFrom_gt]
  have := StrictTotalBefore.sortedFrom_eq_of_prefix (gtThen_total s) hk (fun j => ⟨(p j.val).val, hlt j⟩)
    (by
      intro a b hab
      have e : p a.val = p b.val := Fin.ext (congrArg (fun x : Fin n => x.val) hab)
      rcases lt_trichotomy a b with h | h | h
      · exact absurd e (hne a b h)
      · exact h
      · exact absurd e.symm (hne b a h))
    (by
      intro i j hij
      refine hf i _ ?_ ?_
      · intro t ht e
        exact hne ⟨t, by omega⟩ j (show t < j.val from lt_trans ht hij) (Fin.ext e)
      · intro e
        exact hne i j hij (Fin.ext e))
    (by
      intro i m hm
      refine hf i m ?_ ?_
      · intro t ht e
        exact hm ⟨t, by omega⟩ (Fin.ext e)
      · intro e
        exact hm i (Fin.ext e)) j
  rw [this]

end

end Cert.Pick

end
-- ==== Proof.Score.lean ====
/- The scalar arithmetic that both programs share, over the extended reals: the overlap quotient of two boxes, the first
   best ground-truth box of a proposal, and the two scores. -/
module

public import proofs.«01_k».proof.Proof.Pick
public import Idealize.ShloMosaic.Lib.Pointwise
public import Idealize.ShloMosaic.Lib.IdealHost

@[expose] public section

noncomputable section

namespace Cert.Score

open Idealize.ShloMosaic Cert.Pick

/-- The extended real of an f32 word. -/
abbrev K (b : BitVec 32) : EReal := Ideal.ofBits .f32 b

/-- The word of one denotes 1. -/
theorem K_one : K 0x3F800000#32 = 1 := Ideal.ofBits_one_f32
/-- The word of zero denotes 0. -/
theorem K_zero : K 0x00000000#32 = 0 := Ideal.ofBits_zero_f32
/-- The word of the small divisor denotes a positive number. -/
theorem K_eps_pos : 0 < K 0x322BCC77#32 := by
  have h : K 0x322BCC77#32 = (((11258999 : ℝ) * (2 ^ 50)⁻¹ : ℝ) : EReal) := by
    simp [K, Ideal.ofBits, Ideal.ieee]
  rw [h]
  exact EReal.coe_pos.mpr (by positivity)
/-- The word of minus infinity denotes the least value. -/
theorem K_bot : K 0xFF800000#32 = ⊥ := by simp [K, Ideal.ofBits, Ideal.ieee]
/-- The word of minus one denotes -1. -/
theorem K_neg_one : K 0xBF800000#32 = ((-1 : ℝ) : EReal) := by
  simp [K, Ideal.ofBits, Ideal.ieee, -EReal.coe_mul, -EReal.coe_neg]; norm_num
/-- The word of minus two denotes -2. -/
theorem K_neg_two : K 0xC0000000#32 = ((-2 : ℝ) : EReal) := by
  simp [K, Ideal.ofBits, Ideal.ieee, -EReal.coe_mul, -EReal.coe_neg]; norm_num
/-- -2 is less than -1. -/
theorem K_neg_two_lt : K 0xC0000000#32 < K 0xBF800000#32 := by
  rw [K_neg_one, K_neg_two]; exact EReal.coe_lt_coe_iff.mpr (by norm_num)
/-- -1 is negative. -/
theorem K_neg_one_lt : K 0xBF800000#32 < 0 := by
  rw [K_neg_one]; exact EReal.coe_lt_coe_iff.mpr (by norm_num)

/-- The length of the overlap of two intervals, the ends included. -/
def seg (lo hi l h : EReal) : EReal := max (min hi h - max lo l + K 0x3F800000#32) (K 0x00000000#32)
/-- The area of a box. -/
def area (b : Fin 4 → EReal) : EReal := (b 2 - b 0 + K 0x3F800000#32) * (b 3 - b 1 + K 0x3F800000#32)
/-- The area of the overlap of two boxes. -/
def both (b w : Fin 4 → EReal) : EReal := seg (b 0) (b 2) (w 0) (w 2) * seg (b 1) (b 3) (w 1) (w 3)
/-- The overlap quotient of two boxes. -/
def quo (b w : Fin 4 → EReal) : EReal := Ideal.div (both b w) (max (area b + area w - both b w) (K 0x322BCC77#32))

/-- The extent of a box along one axis, the ends included. -/
def extE (lo hi : EReal) : EReal := hi - lo + 1
/-- The centre of a box along one axis. -/
def midE (lo hi : EReal) : EReal := lo + K 0x3F000000#32 * extE lo hi
/-- The regression target of box `b` towards box `w`: the two centre offsets in units of the box's extents, then the logarithms of the
    two ratios of extents. -/
def shift (b w : Fin 4 → EReal) (c : Fin 4) : EReal :=
  if c.val < 1 then Ideal.div (midE (w 0) (w 2) - midE (b 0) (b 2)) (extE (b 0) (b 2))
  else if c.val - 1 < 1 then Ideal.div (midE (w 1) (w 3) - midE (b 1) (b 3)) (extE (b 1) (b 3))
  else if c.val - 1 - 1 < 1 then Ideal.log (Ideal.div (extE (w 0) (w 2)) (extE (b 0) (b 2)))
  else Ideal.log (Ideal.div (extE (w 1) (w 3)) (extE (b 1) (b 3)))

/-- The length of an overlap is not negative. -/
theorem seg_nonneg (lo hi l h : EReal) : 0 ≤ seg lo hi l h := by
  unfold seg; rw [K_zero]; exact le_max_right _ _

/-- An overlap quotient is not negative. -/
theorem quo_nonneg (b w : Fin 4 → EReal) : 0 ≤ quo b w := by
  have hd : 0 < max (area b + area w - both b w) (K 0x322BCC77#32) := lt_of_lt_of_le K_eps_pos (le_max_right _ _)
  unfold quo Ideal.div
  rw [if_neg hd.ne']
  exact EReal.mul_nonneg (EReal.mul_nonneg (seg_nonneg _ _ _ _) (seg_nonneg _ _ _ _)) (EReal.inv_nonneg_of_nonneg hd.le)

/-- A maximum of extended reals that one of them reaches. -/
theorem fold_max_K {ι : Type} [Fintype ι] (f : ι → EReal) (i : ι) (h : ∀ j, f j ≤ f i) :
    Finset.univ.fold max (K 0xFF800000#32) f = f i := by
  refine le_antisymm ?_ ?_
  · rw [Finset.fold_max_le]
    exact ⟨by rw [K_bot]; exact bot_le, fun j _ => h j⟩
  · rw [Finset.le_fold_max]
    exact .inr ⟨i, Finset.mem_univ i, le_refl _⟩

/-- Some position holds the first greatest value. -/
theorem exists_first {n : Nat} (hn : 0 < n) (q : Fin n → EReal) : ∃ i, First q i := by
  haveI : Nonempty (Fin n) := ⟨⟨0, hn⟩⟩
  obtain ⟨i, hi⟩ := Finite.exists_max q
  obtain ⟨j, hj, hm⟩ := WellFounded.has_min (wellFounded_lt (α := Fin n)) {j | q i ≤ q j} ⟨i, le_refl (q i)⟩
  refine ⟨j, fun m => le_trans (hi m) hj, fun m hmj => lt_of_not_ge fun h => hm m (le_trans hj h) hmj⟩

/-- The position of the first greatest value. -/
def win (q : Fin 64 → EReal) : Fin 64 := Classical.choose (exists_first (by decide) q)
/-- The chosen position is the first greatest one. -/
theorem win_first (q : Fin 64 → EReal) : First q (win q) := Classical.choose_spec (exists_first (by decide) q)
/-- A first greatest position is the chosen one. -/
theorem win_eq {q : Fin 64 → EReal} {i : Fin 64} (h : First q i) : i = win q := First.unique h (win_first q)
/-- The greatest value. -/
def peak (q : Fin 64 → EReal) : EReal := q (win q)

/-- The foreground score of a greatest quotient. -/
def scoreF (m : EReal) : EReal := if K 0x3F333333#32 ≤ m then m else K 0xBF800000#32
/-- The background score of a greatest quotient. -/
def scoreB (m : EReal) : EReal := if m < K 0x3F000000#32 ∧ K 0x3DCCCCCD#32 ≤ m then m else K 0xBF800000#32

/-- A foreground score is above -2. -/
theorem scoreF_gt {m : EReal} (h : 0 ≤ m) : K 0xC0000000#32 < scoreF m := by
  unfold scoreF; split
  · exact lt_of_lt_of_le (K_neg_two_lt.trans K_neg_one_lt) h
  · exact K_neg_two_lt
/-- A background score is above -2. -/
theorem scoreB_gt {m : EReal} (h : 0 ≤ m) : K 0xC0000000#32 < scoreB m := by
  unfold scoreB; split
  · exact lt_of_lt_of_le (K_neg_two_lt.trans K_neg_one_lt) h
  · exact K_neg_two_lt

/-! ## The running maximum -/

/-- The running maximum over the first `n` values, from -1. -/
def runMax (q : Fin 64 → EReal) (n : Nat) : n ≤ 64 → EReal :=
  Nat.rec (motive := fun n => n ≤ 64 → EReal) (fun _ => K 0xBF800000#32)
    (fun g r h => if r (Nat.le_of_lt h) < q ⟨g, h⟩ then q ⟨g, h⟩ else r (Nat.le_of_lt h)) n
/-- What goes along with the running maximum over the first `n` values. -/
def runPos (e : Nat → EReal) (q : Fin 64 → EReal) (n : Nat) : n ≤ 64 → EReal :=
  Nat.rec (motive := fun n => n ≤ 64 → EReal) (fun _ => K 0x00000000#32)
    (fun g r h => if runMax q g (Nat.le_of_lt h) < q ⟨g, h⟩ then e g else r (Nat.le_of_lt h)) n

/-- After at least one step the running maximum is the first greatest value so far, with its own companion. -/
theorem run_spec (e : Nat → EReal) (q : Fin 64 → EReal) (h0 : ∀ g, 0 ≤ q g) (n : Nat) : ∀ h : n + 1 ≤ 64, ∃ i : Fin 64, i.val ≤ n ∧
    runMax q (n + 1) h = q i ∧ runPos e q (n + 1) h = e i.val ∧ (∀ m : Fin 64, m.val ≤ n → q m ≤ q i) ∧ ∀ m < i, q m < q i := by
  induction n with
  | zero =>
    intro h
    have hl : K 0xBF800000#32 < q ⟨0, h⟩ := lt_of_lt_of_le K_neg_one_lt (h0 _)
    refine ⟨⟨0, h⟩, Nat.le_refl _, if_pos hl, if_pos hl, fun m hm => ?_, fun m hm => absurd hm (Nat.not_lt_zero _)⟩
    rw [show m = ⟨0, h⟩ from Fin.ext (Nat.le_zero.mp hm)]
  | succ n ih =>
    intro h
    obtain ⟨i, hi, hv, hp, hm, hb⟩ := ih (Nat.le_of_lt h)
    by_cases hl : runMax q (n + 1) (Nat.le_of_lt h) < q ⟨n + 1, h⟩
    · refine ⟨⟨n + 1, h⟩, Nat.le_refl _, if_pos hl, if_pos hl, fun m hm' => ?_, fun m hm' => ?_⟩
      · rcases Nat.lt_or_ge m.val (n + 1) with hlt | hge
        · exact ((hm m (Nat.le_of_lt_succ hlt)).trans_lt (hv ▸ hl)).le
        · rw [show m = ⟨n + 1, h⟩ from Fin.ext (le_antisymm hm' hge)]
      · exact (hm m (Nat.le_of_lt_succ hm')).trans_lt (hv ▸ hl)
    · refine ⟨i, by omega, (if_neg hl).trans hv, (if_neg hl).trans hp, fun m hm' => ?_, hb⟩
      rcases Nat.lt_or_ge m.val (n + 1) with hlt | hge
      · exact hm m (Nat.le_of_lt_succ hlt)
      · rw [show m = ⟨n + 1, h⟩ from Fin.ext (le_antisymm hm' hge)]
        exact hv ▸ not_lt.mp hl

/-- The running maximum over all values is the greatest one, and what goes along with it is that of its first position. -/
theorem run_all (e : Nat → EReal) (q : Fin 64 → EReal) (h0 : ∀ g, 0 ≤ q g) :
    runMax q 64 (Nat.le_refl _) = peak q ∧ runPos e q 64 (Nat.le_refl _) = e (win q).val := by
  obtain ⟨i, hi, hv, hp, hm, hb⟩ := run_spec e q h0 63 (Nat.le_refl _)
  have : i = win q := win_eq ⟨fun m => hm m (Nat.le_of_lt_succ m.isLt), hb⟩
  subst this
  exact ⟨hv, hp⟩

end Cert.Score

end
-- ==== Proof.Words.lean ====
/- Small whole numbers as 32-bit words. -/
module

public import Idealize.ShloMosaic.Lib.Pointwise
public import Idealize.ShloMosaic.Lib.Affine
public import Idealize.ShloMosaic.Lib.Routing.Words

@[expose] public section

namespace Cert.Words

open Idealize.ShloMosaic

/-- The natural number of a small word. -/
theorem toNat_W {n : Nat} (h : n < 2 ^ 31) : (BitVec.ofNat 32 n).toNat = n := by
  rw [BitVec.toNat_ofNat]; exact Nat.mod_eq_of_lt (by omega)
/-- The integer of a small word. -/
theorem toInt_W {n : Nat} (h : n < 2 ^ 31) : (BitVec.ofNat 32 n).toInt = n := by
  rw [BitVec.toInt_eq_toNat_of_lt (by rw [toNat_W h]; omega), toNat_W h]
/-- Small words are equal when their numbers are. -/
theorem W_inj {n m : Nat} (hn : n < 2 ^ 31) (hm : m < 2 ^ 31) : BitVec.ofNat 32 n = BitVec.ofNat 32 m ↔ n = m :=
  ⟨fun h => by rw [← toNat_W hn, ← toNat_W hm, h], fun h => by rw [h]⟩

/-- The sum of two words. -/
theorem add_W (n m : Nat) : IntOp.addi (BitVec.ofNat 32 n) (BitVec.ofNat 32 m) = BitVec.ofNat 32 (n + m) := (BitVec.ofNat_add n m).symm
/-- The product of two words. -/
theorem mul_W (n m : Nat) : IntOp.muli (BitVec.ofNat 32 n) (BitVec.ofNat 32 m) = BitVec.ofNat 32 (n * m) := (BitVec.ofNat_mul n m).symm

/-- Less than, on small words. -/
theorem slt_W {n m : Nat} (hn : n < 2 ^ 31) (hm : m < 2 ^ 31) :
    IntOp.cmpi .slt (BitVec.ofNat 32 n) (BitVec.ofNat 32 m) = BitVec.ofBool (decide (n < m)) := by
  unfold IntOp.cmpi
  simp only [BitVec.slt, toInt_W hn, toInt_W hm, Nat.cast_lt]
/-- Greater than, on small words. -/
theorem sgt_W {n m : Nat} (hn : n < 2 ^ 31) (hm : m < 2 ^ 31) :
    IntOp.cmpi .sgt (BitVec.ofNat 32 n) (BitVec.ofNat 32 m) = BitVec.ofBool (decide (m < n)) := by
  unfold IntOp.cmpi
  simp only [BitVec.slt, toInt_W hn, toInt_W hm, Nat.cast_lt]
/-- At least, on small words. -/
theorem sge_W {n m : Nat} (hn : n < 2 ^ 31) (hm : m < 2 ^ 31) :
    IntOp.cmpi .sge (BitVec.ofNat 32 n) (BitVec.ofNat 32 m) = BitVec.ofBool (decide (m ≤ n)) := by
  unfold IntOp.cmpi
  simp only [BitVec.sle, toInt_W hn, toInt_W hm, Nat.cast_le]
/-- At most, on small words. -/
theorem sle_W {n m : Nat} (hn : n < 2 ^ 31) (hm : m < 2 ^ 31) :
    IntOp.cmpi .sle (BitVec.ofNat 32 n) (BitVec.ofNat 32 m) = BitVec.ofBool (decide (n ≤ m)) := by
  unfold IntOp.cmpi
  simp only [BitVec.sle, toInt_W hn, toInt_W hm, Nat.cast_le]
/-- Equal, on small words. -/
theorem eq_W {n m : Nat} (hn : n < 2 ^ 31) (hm : m < 2 ^ 31) :
    IntOp.cmpi .eq (BitVec.ofNat 32 n) (BitVec.ofNat 32 m) = BitVec.ofBool (decide (n = m)) := by
  unfold IntOp.cmpi
  congr 1
  by_cases h : n = m
  · simp [h]
  · have : BitVec.ofNat 32 n ≠ BitVec.ofNat 32 m := fun e => h ((W_inj hn hm).mp e)
    simp [h, this]
/-- Not equal, on small words. -/
theorem ne_W {n m : Nat} (hn : n < 2 ^ 31) (hm : m < 2 ^ 31) :
    IntOp.cmpi .ne (BitVec.ofNat 32 n) (BitVec.ofNat 32 m) = BitVec.ofBool (decide (n ≠ m)) := by
  unfold IntOp.cmpi
  congr 1
  by_cases h : n = m
  · simp [h]
  · have : BitVec.ofNat 32 n ≠ BitVec.ofNat 32 m := fun e => h ((W_inj hn hm).mp e)
    simp [h, this]
/-- The lesser of two small words. -/
theorem min_W {n m : Nat} (hn : n < 2 ^ 31) (hm : m < 2 ^ 31) :
    IntOp.minsi (BitVec.ofNat 32 n) (BitVec.ofNat 32 m) = BitVec.ofNat 32 (min n m) := by
  unfold IntOp.minsi
  simp only [BitVec.slt, BitVec.sle, toInt_W hn, toInt_W hm, Nat.cast_le, Nat.cast_lt, decide_eq_true_eq]
  split <;> congr 1 <;> omega

/-- The remainder of two small words. -/
theorem rem_W {n m : Nat} (u : ArithUnit) (hn : n < 2 ^ 31) (h0 : 0 < m) (hm : m < 2 ^ 31) :
    IntOp.remsi u (BitVec.ofNat 32 n) (BitVec.ofNat 32 m) = BitVec.ofNat 32 (n % m) := by
  apply BitVec.eq_of_toNat_eq
  have := Nat.mod_lt n h0
  rw [IntOp.toNat_remsi u (by rw [toNat_W hn]; omega) m h0 (by omega), toNat_W hn, toNat_W (by omega)]
/-- The quotient of two small words. -/
theorem div_W {n m : Nat} (u : ArithUnit) (hn : n < 2 ^ 31) (h0 : 0 < m) (hm : m < 2 ^ 31) :
    IntOp.divsi u (BitVec.ofNat 32 n) (BitVec.ofNat 32 m) = BitVec.ofNat 32 (n / m) := by
  exact Routing.divsi_word u hn h0 hm

/-- A choice by a bit that says whether `P`. -/
theorem sel_bit {α : Type} (P : Prop) [Decidable P] (a b : α) : Scalar.select (BitVec.ofBool (decide P)) a b = if P then a else b := by
  by_cases h : P
  · simp [h, Scalar.select]
  · simp [h, Scalar.select]
/-- The conjunction of two such bits. -/
theorem and_bit (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

/-- The disjunction of two such bits. -/
theorem or_bit (P Q : Prop) [Decidable P] [Decidable Q] :
    IntOp.ori (BitVec.ofBool (decide P)) (BitVec.ofBool (decide Q)) = BitVec.ofBool (decide (P ∨ Q)) := by
  by_cases h : P <;> by_cases h' : Q <;> simp [h, h', IntOp.ori]
/-- Whether such a bit is set. -/
theorem bit_set (P : Prop) [Decidable P] : (BitVec.ofBool (decide P) == 1#1) = decide P := by
  by_cases h : P <;> simp [h]

/-- A small word's sign bit is not set. -/
theorem msb_W {n : Nat} (h : n < 2 ^ 31) : (BitVec.ofNat 32 n).msb = false := by
  rw [BitVec.msb_eq_false_iff_two_mul_lt, toNat_W h]; omega

end Cert.Words
-- ==== Proof.KernelScore.lean ====
/- The kernel's three score blocks at an entry: the first best ground-truth box and the two scores of the box there. -/
module

public import proofs.«01_k».proof.Proof.Blocks
public import proofs.«01_k».proof.Proof.Score
public import proofs.«01_k».proof.Proof.Words

@[expose] public section

noncomputable section

namespace Cert.KernelIdeal.Model

open Idealize.ShloMosaic Idealize.SL.Sem Cert.KernelIdeal Cert.KernelIdeal.Gen Cert.Score Cert.Pick Cert.Words

variable (G : FVec Ideal S64x4 .f32) (X : FVec Ideal S4x160x128 .f32)

/-- The quotients of the box at row `r`, lane `l`. -/
def qs (r : Fin 160) (l : Fin 128) : Fin 64 → EReal := fun g =>
  quo (fun p => X (ix3 (n0 := 4) (n1 := 160) (n2 := 128) p r l)) (fun j => G (ix2 (n0 := 64) (n1 := 4) g j))

/-- A quotient is not negative. -/
theorem qs_nonneg (r : Fin 160) (l : Fin 128) (g : Fin 64) : 0 ≤ qs G X r l g := quo_nonneg _ _

/-- The quotients of a chunk read at an entry. -/
theorem quotK_apply (k : Fin k0_t1_loop.trips) (g : Fin 64) (a : Fin 8) (b : Fin 128) :
    quotK G X k g (ix2 (n0 := 8) (n1 := 128) a b) = qs G X ⟨8 * k.val + a.val, row_lt k a⟩ b g := rfl

/-- Selecting by a strict comparison, as a choice between two values. -/
theorem select_gt (x y a b : EReal) : Scalar.select (Ideal.cmp .ogt x y) a b = if y < x then a else b := by
  unfold Scalar.select Ideal.cmp
  by_cases h : y < x <;> simp [h]

/-- The running maximum read at an entry. -/
theorem maxvN_apply (q : Fin 64 → FVec Ideal S8x128 .f32) (y : S8x128.Idx) (n : Nat) : ∀ h : n ≤ 64,
    maxvN q n h y = runMax (fun g => q g y) n h := by
  induction n with
  | zero => intro h; rfl
  | succ n ih =>
    intro h
    refine (select_gt (q ⟨n, h⟩ y) (maxvN q n (Nat.le_of_lt h) y) (q ⟨n, h⟩ y) (maxvN q n (Nat.le_of_lt h) y)).trans ?_
    rw [ih]; rfl

/-- A constant block read at an entry. -/
theorem kst_apply (b : BitVec 32) (y : S8x128.Idx) : kst (F := Ideal) b y = K b := rfl

/-- One step of the running position read at an entry. -/
theorem asgN_step (q : Fin 64 → FVec Ideal S8x128 .f32) (y : S8x128.Idx) (n : Nat) (h : n + 1 ≤ 64) (z : EReal)
    (hz : kst (F := Ideal) (natBits n) y = z) :
    asgN q (n + 1) h y = Scalar.select (Ideal.cmp .ogt (q ⟨n, h⟩ y) (maxvN q n (Nat.le_of_lt h) y)) z (asgN q n (Nat.le_of_lt h) y) := by
  have e : asgN q (n + 1) h = select (cmpf .ogt (q ⟨n, h⟩) (maxvN q n (Nat.le_of_lt h))) (kst (natBits n)) (asgN q n (Nat.le_of_lt h)) := rfl
  rw [e, ← hz]
  generalize kst (F := Ideal) (natBits n) = b
  rfl

/-- The running position read at an entry. -/
theorem asgN_apply (q : Fin 64 → FVec Ideal S8x128 .f32) (y : S8x128.Idx) (e : Nat → EReal) (he : ∀ g, K (natBits g) = e g) (n : Nat) :
    ∀ h : n ≤ 64, asgN q n h y = runPos e (fun g => q g y) n h := by
  induction n with
  | zero => intro h; rfl
  | succ n ih =>
    intro h
    rw [asgN_step q y n h (e n) ((kst_apply _ y).trans (he n)), select_gt, ih, maxvN_apply]
    rfl

/-- A row is put together from its chunk and its place there. -/
theorem split_row (r : Fin 160) : (⟨8 * (⟨r.val / 8, chunk_lt r⟩ : Fin k0_t1_loop.trips).val + (⟨r.val % 8, Nat.mod_lt _ (by decide)⟩ : Fin 8).val,
    row_lt ⟨r.val / 8, chunk_lt r⟩ ⟨r.val % 8, Nat.mod_lt _ (by decide)⟩⟩ : Fin 160) = r :=
  Fin.ext (Nat.div_add_mod r.val 8)

/-- The quotients of a row, read through its chunk. -/
theorem quot_at (r : Fin 160) (l : Fin 128) :
    (fun g => quotK G X ⟨r.val / 8, chunk_lt r⟩ g (ix2 (n0 := 8) (n1 := 128) ⟨r.val % 8, Nat.mod_lt _ (by decide)⟩ l)) = qs G X r l := by
  funext g
  rw [quotK_apply, split_row]

/-- The position block holds each box's first best ground-truth box. -/
theorem asgK_apply (r : Fin 160) (l : Fin 128) : asgK G X (ix2 (n0 := 160) (n1 := 128) r l) = K (natBits (win (qs G X r l)).val) := by
  refine (asgN_apply (quotK G X ⟨r.val / 8, chunk_lt r⟩) (ix2 (n0 := 8) (n1 := 128) ⟨r.val % 8, Nat.mod_lt _ (by decide)⟩ l) (fun g => K (natBits g)) (fun _ => rfl) 64 (Nat.le_refl _)).trans ?_
  rw [quot_at]
  exact (run_all (fun g => K (natBits g)) (qs G X r l) (qs_nonneg G X r l)).2

/-- The running maximum over all ground-truth boxes is the greatest quotient. -/
theorem maxv_at (r : Fin 160) (l : Fin 128) :
    maxvN (quotK G X ⟨r.val / 8, chunk_lt r⟩) 64 (Nat.le_refl _) (ix2 (n0 := 8) (n1 := 128) ⟨r.val % 8, Nat.mod_lt _ (by decide)⟩ l)
      = peak (qs G X r l) := by
  rw [maxvN_apply, quot_at]
  exact (run_all (fun g => K (natBits g)) (qs G X r l) (qs_nonneg G X r l)).1

/-- A chunk starts at eight times its number. -/
theorem start_eq : ∀ k : Fin k0_t1_loop.trips, start k = BitVec.ofNat 32 (8 * k.val) := by decide +kernel

/-- Whether a position holds a box. -/
theorem valid_apply (k : Fin k0_t1_loop.trips) (a : Fin 8) (b : Fin 128) :
    valid (start k) (ix2 (n0 := 8) (n1 := 128) a b) = BitVec.ofBool (decide (128 * (8 * k.val + a.val) + b.val < 20064)) := by
  have hk : k.val < 20 := by have : k0_t1_loop.trips = 20 := by decide
                             have := k.isLt; omega
  have hs : start k = BitVec.ofNat 32 (8 * k.val) := start_eq k
  have ha := a.isLt
  have hb := b.isLt
  unfold valid rel
  rw [hs]
  pointwise
  show IntOp.cmpi .slt (IntOp.addi (IntOp.muli (BitVec.ofNat 32 (8 * k.val)) (BitVec.ofNat 32 128)) (IntOp.addi (IntOp.muli (BitVec.ofNat 32 a.val) (BitVec.ofNat 32 128)) (BitVec.ofNat 32 b.val))) (BitVec.ofNat 32 20064) = _
  rw [mul_W, mul_W, add_W, add_W, slt_W (by omega) (by omega)]
  congr 2
  exact propext (by constructor <;> intro h <;> omega)

/-- The foreground score of an entry, or the low value where there is no box. -/
theorem fgOf_apply (s : BitVec 32) (mx : FVec Ideal S8x128 .f32) (y : S8x128.Idx) (P : Prop) [Decidable P] (hP : valid s y = BitVec.ofBool (decide P)) :
    fgOf s mx y = if P then scoreF (mx y) else K 0xC0000000#32 := by
  unfold fgOf scoreF
  pointwise
  rw [hP]
  simp only [and_bit, sel_bit]
  by_cases h : P
  · rw [if_pos h, if_pos h]
    simp only [h, true_and]
    rfl
  · rw [if_neg h, if_neg h]
    rfl

/-- The background score of an entry, or the low value where there is no box. -/
theorem bgOf_apply (s : BitVec 32) (mx : FVec Ideal S8x128 .f32) (y : S8x128.Idx) (P : Prop) [Decidable P] (hP : valid s y = BitVec.ofBool (decide P)) :
    bgOf s mx y = if P then scoreB (mx y) else K 0xC0000000#32 := by
  unfold bgOf scoreB
  pointwise
  rw [hP]
  simp only [and_bit, sel_bit]
  by_cases h : P
  · rw [if_pos h, if_pos h]
    simp only [h, true_and]
    rfl
  · rw [if_neg h, if_neg h]
    rfl

/-- The foreground score block: each box's foreground score, and -2 past the last box. -/
theorem fgK_apply (r : Fin 160) (l : Fin 128) :
    fgK G X (ix2 (n0 := 160) (n1 := 128) r l) = if 128 * r.val + l.val < 20064 then scoreF (peak (qs G X r l)) else K 0xC0000000#32 := by
  refine (fgOf_apply (start ⟨r.val / 8, chunk_lt r⟩) (maxvN (quotK G X ⟨r.val / 8, chunk_lt r⟩) 64 (Nat.le_refl _)) (ix2 (n0 := 8) (n1 := 128) ⟨r.val % 8, Nat.mod_lt _ (by decide)⟩ l) _
    (valid_apply ⟨r.val / 8, chunk_lt r⟩ ⟨r.val % 8, Nat.mod_lt _ (by decide)⟩ l)).trans ?_
  rw [maxv_at]
  show (if 128 * (8 * (r.val / 8) + r.val % 8) + l.val < 20064 then _ else _) = _
  rw [Nat.div_add_mod]

/-- The background score block: each box's background score, and -2 past the last box. -/
theorem bgK_apply (r : Fin 160) (l : Fin 128) :
    bgK G X (ix2 (n0 := 160) (n1 := 128) r l) = if 128 * r.val + l.val < 20064 then scoreB (peak (qs G X r l)) else K 0xC0000000#32 := by
  refine (bgOf_apply (start ⟨r.val / 8, chunk_lt r⟩) (maxvN (quotK G X ⟨r.val / 8, chunk_lt r⟩) 64 (Nat.le_refl _)) (ix2 (n0 := 8) (n1 := 128) ⟨r.val % 8, Nat.mod_lt _ (by decide)⟩ l) _
    (valid_apply ⟨r.val / 8, chunk_lt r⟩ ⟨r.val % 8, Nat.mod_lt _ (by decide)⟩ l)).trans ?_
  rw [maxv_at]
  show (if 128 * (8 * (r.val / 8) + r.val % 8) + l.val < 20064 then _ else _) = _
  rw [Nat.div_add_mod]

end Cert.KernelIdeal.Model

end
-- ==== Proof.KernelPick.lean ====
/- One pick of the kernel: the flat position with the greatest score, its row and lane, and the block after it. -/
module

public import proofs.«01_k».proof.Proof.KernelScore

@[expose] public section

noncomputable section

namespace Cert.KernelIdeal.Model

open Idealize.ShloMosaic Idealize.SL.Sem Cert.KernelIdeal Cert.KernelIdeal.Gen Cert.Score Cert.Pick Cert.Words

/-- The row of a flat position. -/
theorem rowOf_W {s : Shape} (i : IVec s 32) (y : s.Idx) (n : Nat) (hn : n < 20480) (h : i y = BitVec.ofNat 32 n) :
    rowOf i y = BitVec.ofNat 32 (n / 128) := by
  unfold rowOf
  pointwise
  rw [h, show (128#32 : BitVec 32) = BitVec.ofNat 32 128 from rfl, show (0#32 : BitVec 32) = BitVec.ofNat 32 0 from rfl,
    div_W _ (by omega) (by omega) (by omega), rem_W _ (by omega) (by omega) (by omega), sgt_W (by omega) (by omega), slt_W (by omega) (by omega),
    ne_W (by omega) (by omega)]
  rcases Nat.eq_zero_or_pos n with rfl | hp
  · decide
  · simp only [hp, decide_true]
    have hz : IntOp.cmpi .ne (IntOp.subi (BitVec.setWidth 32 (BitVec.ofBool true)) (BitVec.setWidth 32 (BitVec.ofBool (decide (n < 0)))))
        (Scalar.subi (Scalar.extui (Scalar.cmpi .sgt (BitVec.ofNat 32 128) (BitVec.ofNat 32 0)))
          (Scalar.extui (Scalar.cmpi .slt (BitVec.ofNat 32 128) (BitVec.ofNat 32 0)))) = 0#1 := by
      rw [decide_eq_false (Nat.not_lt_zero n)]; decide
    rw [hz]
    unfold IntOp.andi
    rw [BitVec.zero_and]
    rfl

/-- The lane of a flat position. -/
theorem laneOf_W {s : Shape} (hb : s.Broadcasts s) (i : IVec s 32) (y : s.Idx) (n : Nat) (hn : n < 20480) (h : i y = BitVec.ofNat 32 n) :
    laneOf hb i y = BitVec.ofNat 32 (n % 128) := by
  have hc : Scalar.select (Scalar.cmpi .eq 128#32 0#32) 1#32 128#32 = BitVec.ofNat 32 128 := by decide
  have hd : Scalar.cmpi .slt (BitVec.ofNat 32 128) (0#32) = 0#1 := by decide
  unfold laneOf
  rw [hc, hd]
  pointwise
  rw [h, show (0#32 : BitVec 32) = BitVec.ofNat 32 0 from rfl,
    rem_W _ (by omega) (by omega) (by omega), slt_W (by omega) (by omega),
    ne_W (by omega) (by omega)]
  have hz : IntOp.xori (BitVec.ofBool (decide (n % 128 < 0))) 0#1 = 0#1 := by
    rw [decide_eq_false (Nat.not_lt_zero _)]; decide
  rw [hz]
  unfold IntOp.andi
  rw [BitVec.zero_and]
  rfl

/-- A minimum of words below `2 ^ 31 - 1` that one of them reaches. -/
theorem fold_min_W {ι : Type} [Fintype ι] (g : ι → Nat) (hg : ∀ j, g j < 2 ^ 31 - 1) (i : ι) (h : ∀ j, g i ≤ g j) :
    Finset.univ.fold IntOp.minsi (2147483647#32) (fun j => BitVec.ofNat 32 (g j)) = BitVec.ofNat 32 (g i) := by
  classical
  have key : ∀ s : Finset ι, s.fold IntOp.minsi (2147483647#32) (fun j => BitVec.ofNat 32 (g j))
      = BitVec.ofNat 32 (s.fold min 2147483647 g) ∧ s.fold min 2147483647 g ≤ 2147483647 := by
    intro s
    induction s using Finset.induction with
    | empty => exact ⟨rfl, le_refl _⟩
    | insert a s ha ih =>
      have := hg a
      rw [Finset.fold_insert ha, Finset.fold_insert ha, ih.1, min_W (by omega) (by have := ih.2; omega)]
      exact ⟨rfl, (min_le_right _ _).trans ih.2⟩
  rw [(key Finset.univ).1]
  congr 1
  refine le_antisymm ?_ ?_
  · rw [Finset.fold_min_le]
    exact .inr ⟨i, Finset.mem_univ i, le_refl _⟩
  · rw [Finset.le_fold_min]
    exact ⟨by have := hg i; omega, fun j _ => h j⟩

variable (v : FVec Ideal S160x128 .f32)

/-- The block read along its rows. -/
def flat (i : Fin 20480) : EReal :=
  v (ix2 (n0 := 160) (n1 := 128) ⟨i.val / 128, by have := i.isLt; omega⟩ ⟨i.val % 128, Nat.mod_lt _ (by decide)⟩)

/-- A block read at a flat position is the block at its row and lane. -/
theorem flat_at (r : Fin 160) (l : Fin 128) (i : Fin 20480) (h : i.val = 128 * r.val + l.val) : flat v i = v (ix2 (n0 := 160) (n1 := 128) r l) := by
  have hl := l.isLt
  unfold flat
  congr 2 <;> apply Fin.ext <;> show _ = _ <;> simp only [h] <;> omega

/-- The column maximum is the entry at the first greatest row. -/
theorem colMax_apply (l : Fin 128) (R : Fin 160) (h : First (fun r : Fin 160 => v (ix2 (n0 := 160) (n1 := 128) r l)) R) :
    colMax v (ix2 (n0 := 1) (n1 := 128) 0 l) = v (ix2 (n0 := 160) (n1 := 128) R l) := by
  unfold colMax
  pointwise
  exact fold_max_K (fun r : Fin 160 => v (ix2 (n0 := 160) (n1 := 128) r l)) R h.1

/-- The column's row number is that of the first greatest row. -/
theorem colRow_apply (l : Fin 128) (R : Fin 160) (h : First (fun r : Fin 160 => v (ix2 (n0 := 160) (n1 := 128) r l)) R) :
    colRow v (ix2 (n0 := 1) (n1 := 128) 0 l) = BitVec.ofNat 32 R.val := by
  have hR := R.isLt
  unfold colRow
  pointwise
  rw [colMax_apply v l R h]
  have e : (fun x : Fin 160 => if v (ix2 (n0 := 160) (n1 := 128) x l) = v (ix2 (n0 := 160) (n1 := 128) R l) then BitVec.ofNat 32 x.val else 1073741824#32)
      = fun x : Fin 160 => BitVec.ofNat 32 (if v (ix2 (n0 := 160) (n1 := 128) x l) = v (ix2 (n0 := 160) (n1 := 128) R l) then x.val else 1073741824) := by
    funext x; split <;> rfl
  rw [e]
  refine (fold_min_W _ ?_ R ?_).trans (by rw [if_pos rfl])
  · intro x; have := x.isLt; split <;> omega
  · intro x
    rw [if_pos rfl]
    split
    · rename_i hx
      by_contra hlt
      have := h.2 x (by omega)
      exact absurd hx (ne_of_lt this)
    · omega

/-- The position picked is the first of the greatest value, reading along the rows. -/
theorem pickIdx_apply (p : Fin 20480) (h : First (flat v) p) : pickIdx v (ix2 (n0 := 1) (n1 := 1) 0 0) = BitVec.ofNat 32 p.val := by
  have hp := p.isLt
  have hex : ∀ l : Fin 128, ∃ R, First (fun r : Fin 160 => v (ix2 (n0 := 160) (n1 := 128) r l)) R := fun l => exists_first (by decide) _
  choose R hR using hex
  let at' (r : Fin 160) (l : Fin 128) : Fin 20480 := ⟨128 * r.val + l.val, by have := r.isLt; have := l.isLt; omega⟩
  have hat : ∀ r l, flat v (at' r l) = v (ix2 (n0 := 160) (n1 := 128) r l) := fun r l => flat_at v r l _ rfl
  let r0 : Fin 160 := ⟨p.val / 128, by omega⟩
  let l0 : Fin 128 := ⟨p.val % 128, Nat.mod_lt _ (by decide)⟩
  have h0 : flat v p = v (ix2 (n0 := 160) (n1 := 128) r0 l0) := rfl
  have hle : ∀ r l, v (ix2 (n0 := 160) (n1 := 128) r l) ≤ flat v p := fun r l => by rw [← hat]; exact h.1 _
  have hC : v (ix2 (n0 := 160) (n1 := 128) (R l0) l0) = flat v p := le_antisymm (hle _ _) (by rw [h0]; exact (hR l0).1 r0)
  have hpos : ∀ r l, v (ix2 (n0 := 160) (n1 := 128) r l) = flat v p → p.val ≤ 128 * r.val + l.val := by
    intro r l e
    by_contra hlt
    have := h.2 (at' r l) (by show 128 * r.val + l.val < p.val; omega)
    rw [hat, e] at this
    exact lt_irrefl _ this
  have hRr : R l0 = r0 := by
    have a1 := hpos _ _ hC
    have a2 : ¬ r0 < R l0 := fun hlt => by
      have := (hR l0).2 r0 hlt
      simp only at this
      rw [hC, ← h0] at this
      exact lt_irrefl _ this
    apply Fin.ext
    have a3 : ¬ p.val / 128 < (R l0).val := a2
    have a4 : p.val ≤ 128 * (R l0).val + p.val % 128 := a1
    show (R l0).val = p.val / 128
    omega
  unfold pickIdx
  pointwise
  have em : Finset.univ.fold max (K 0xFF800000#32) (fun x : Fin 128 => colMax v (ix2 (n0 := 1) (n1 := 128) 0 x)) = flat v p := by
    rw [← hC, ← colMax_apply v l0 (R l0) (hR l0)]
    refine fold_max_K (fun x : Fin 128 => colMax v (ix2 (n0 := 1) (n1 := 128) 0 x)) l0 fun l => ?_
    rw [colMax_apply v l0 (R l0) (hR l0), hC, colMax_apply v l (R l) (hR l)]
    exact hle _ _
  have e : (fun x : Fin 128 => if colMax v (ix2 (n0 := 1) (n1 := 128) 0 x)
        = Finset.univ.fold max (Ideal.ofBits .f32 4286578688#32) (fun x : Fin 128 => colMax v (ix2 (n0 := 1) (n1 := 128) 0 x))
        then IntOp.addi (IntOp.muli (colRow v (ix2 (n0 := 1) (n1 := 128) 0 x)) 128#32) (BitVec.ofNat 32 x.val) else 1073741824#32)
      = fun x : Fin 128 => BitVec.ofNat 32 (if v (ix2 (n0 := 160) (n1 := 128) (R x) x) = flat v p then 128 * (R x).val + x.val else 1073741824) := by
    funext x
    rw [em, colMax_apply v x (R x) (hR x), colRow_apply v x (R x) (hR x), show (128#32 : BitVec 32) = BitVec.ofNat 32 128 from rfl, mul_W, add_W,
      Nat.mul_comm]
    split <;> rfl
  rw [e]
  refine (fold_min_W _ ?_ l0 ?_).trans ?_
  · intro x; have := x.isLt; have := (R x).isLt; split <;> omega
  · intro x
    rw [if_pos hC, hRr]
    have e0 : 128 * r0.val + l0.val = p.val := Nat.div_add_mod _ _
    split
    · rename_i hx
      rw [e0]; exact hpos _ _ hx
    · omega
  · rw [if_pos hC, hRr]
    exact congrArg (BitVec.ofNat 32) (Nat.div_add_mod _ _)

/-- The next block: the picked position lowered to -2, the others kept. -/
theorem pickNext_apply (p : Fin 20480) (h : First (flat v) p) (r : Fin 160) (l : Fin 128) :
    pickNext v (ix2 (n0 := 160) (n1 := 128) r l) = if 128 * r.val + l.val = p.val then K 0xC0000000#32 else v (ix2 (n0 := 160) (n1 := 128) r l) := by
  have hp := p.isLt
  have hr := r.isLt
  have hl := l.isLt
  unfold pickNext
  pointwise
  rw [rowOf_W _ _ p.val hp (pickIdx_apply v p h), laneOf_W _ _ _ p.val hp (pickIdx_apply v p h), eq_W (by omega) (by omega), eq_W (by omega) (by omega), and_bit, sel_bit]
  refine if_congr ?_ rfl rfl
  constructor <;> intro h <;> omega

/-- After a pick the picked position holds the low value and every other one what it held. -/
theorem flat_next (p : Fin 20480) (h : First (flat v) p) (i : Fin 20480) : flat (pickNext v) i = if i = p then K 0xC0000000#32 else flat v i := by
  refine (pickNext_apply v p h _ _).trans ?_
  refine if_congr ?_ rfl rfl
  rw [Fin.ext_iff]
  show 128 * (i.val / 128) + i.val % 128 = p.val ↔ i.val = p.val
  rw [Nat.div_add_mod]

/-- A lookup by one-hot sums reads the entry at the position. -/
theorem gath_apply (i : IVec S128x1 32) (k : Fin 128) (n : Fin 20480) (h : i (ix2 (n0 := 128) (n1 := 1) k 0) = BitVec.ofNat 32 n.val) :
    gath i v (ix2 (n0 := 128) (n1 := 1) k 0) = flat v n := by
  have hn := n.isLt
  have h1 : ∀ x : Fin 128, laneHot (F := Ideal) i (ix2 (n0 := 128) (n1 := 128) k x) = if (⟨n.val % 128, Nat.mod_lt _ (by decide)⟩ : Fin 128) = x then 1 else 0 := by
    intro x
    have hx := x.isLt
    unfold laneHot
    pointwise
    rw [laneOf_W _ _ _ n.val hn h, eq_W (by omega) (by omega), sel_bit]
    refine if_congr ?_ (by first | rfl | exact K_one) (by first | rfl | exact K_zero)
    rw [Fin.ext_iff]
  have h2 : ∀ x : Fin 160, rowHot (F := Ideal) i (ix2 (n0 := 128) (n1 := 160) k x) = if (⟨n.val / 128, by omega⟩ : Fin 160) = x then 1 else 0 := by
    intro x
    have hx := x.isLt
    unfold rowHot
    pointwise
    rw [rowOf_W _ _ n.val hn h, eq_W (by omega) (by omega), sel_bit]
    refine if_congr ?_ (by first | rfl | exact K_one) (by first | rfl | exact K_zero)
    rw [Fin.ext_iff]
  unfold gath
  pointwise
  simp only [h1, h2, ite_mul, mul_ite, one_mul, mul_one, zero_mul, mul_zero, Finset.sum_ite_eq, Finset.mem_univ, if_true]
  rfl

end Cert.KernelIdeal.Model

end
-- ==== Proof.KernelOut.lean ====
/- The kernel's three results read at an index, given the positions it picked. -/
module

public import proofs.«01_k».proof.Proof.KernelPick

@[expose] public section

noncomputable section

namespace Cert.KernelIdeal.Model

open Idealize.ShloMosaic Idealize.SL.Sem Cert.KernelIdeal Cert.KernelIdeal.Gen Cert.Score Cert.Pick Cert.Words

/-- There are at least 64 boxes. -/
theorem h64 : 64 ≤ 20064 := by norm_num

/-- The 64 picks from a block of scores are the 64 greatest scores in order, the lowest position first among equals. -/
theorem pick_sorted (b : FVec Ideal S160x128 .f32) (s : Fin 20064 → EReal) (hs : ∀ i, K 0xC0000000#32 < s i)
    (hb : ∀ i : Fin 20480, flat b i = if h : i.val < 20064 then s ⟨i.val, h⟩ else K 0xC0000000#32) (j : Fin 64) :
    pickIdx (pickN b j.val) (ix2 (n0 := 1) (n1 := 1) 0 0) = BitVec.ofNat 32 (sortedFrom (Pick.gtB s) (j.castLE h64)).val := by
  have hex : ∀ n : Nat, ∃ p, First (flat (pickN b n)) p := fun n => exists_first (by norm_num) _
  choose p hp using hex
  rw [pickIdx_apply _ _ (hp j.val)]
  have e := sorted_eq_pick (N := 20480) (n := 20064) (by norm_num) s (K 0xC0000000#32) hs (fun n => flat (pickN b n)) p hb hp
    (fun n i => flat_next (pickN b n) (p n) (hp n) i) 64 h64 j
  rw [e]

/-- Four columns side by side, read at an index. -/
theorem join4_apply (x0 x1 x2 x3 : FVec Ideal S128x1 .f32) (k : Fin 128) (c : Fin 4) :
    join4 x0 x1 x2 x3 (ix2 (n0 := 128) (n1 := 4) k c) = (![x0, x1, x2, x3] c) (ix2 (n0 := 128) (n1 := 1) k 0) := by
  unfold join4 lane4
  pointwise
  match c with
  | 0 => rfl
  | 1 => rfl
  | 2 => rfl
  | 3 => rfl

/-- Four columns of 64 side by side, read at an index. -/
theorem join4h_apply (x0 x1 x2 x3 : FVec Ideal S64x1 .f32) (k : Fin 64) (c : Fin 4) :
    join4h x0 x1 x2 x3 (ix2 (n0 := 64) (n1 := 4) k c) = (![x0, x1, x2, x3] c) (ix2 (n0 := 64) (n1 := 1) k 0) := by
  unfold join4h lane4
  pointwise
  match c with
  | 0 => rfl
  | 1 => rfl
  | 2 => rfl
  | 3 => rfl

/-- A row of the rois is the box at the picked position. -/
theorem rois_apply (i : IVec S128x1 32) (p : Fin 4 → FVec Ideal S160x128 .f32) (k : Fin 128) (c : Fin 4) (n : Fin 20480)
    (h : i (ix2 (n0 := 128) (n1 := 1) k 0) = BitVec.ofNat 32 n.val) :
    roisM i p (ix2 (n0 := 128) (n1 := 4) k c) = flat (p c) n := by
  unfold roisM
  rw [join4_apply]
  match c with
  | 0 => exact gath_apply (p 0) i k n h
  | 1 => exact gath_apply (p 1) i k n h
  | 2 => exact gath_apply (p 2) i k n h
  | 3 => exact gath_apply (p 3) i k n h

/-- The upper half of a column keeps its entries. -/
theorem half_apply (x : FVec Ideal S128x1 .f32) (k : Fin 64) :
    half x (ix2 (n0 := 64) (n1 := 1) k 0) = x (ix2 (n0 := 128) (n1 := 1) ⟨k.val, by have := k.isLt; omega⟩ 0) := by
  unfold half
  pointwise

/-- The parts of the float word of each number below 64: its sign, its exponent and its fraction. -/
theorem word_parts : ∀ g : Fin 64,
    ((natBits g.val).extractLsb' 31 1 == 1#1) = false ∧ ((natBits g.val).extractLsb' 23 8).toNat ≠ 255 ∧
      ((((natBits g.val).extractLsb' 23 8).toNat = 0 ∧ ((natBits g.val).extractLsb' 0 23).toNat = 0 ∧ g.val = 0) ∨
        (((natBits g.val).extractLsb' 23 8).toNat ≠ 0 ∧ ((natBits g.val).extractLsb' 23 8).toNat ≤ 150 ∧
          2 ^ 23 + ((natBits g.val).extractLsb' 0 23).toNat = g.val * 2 ^ (150 - ((natBits g.val).extractLsb' 23 8).toNat))) := by
  decide +kernel

/-- The word of a small natural number denotes that number. -/
theorem K_nat (g : Fin 64) : K (natBits g.val) = ((g.val : ℝ) : EReal) := by
  obtain ⟨h1, h2, h3⟩ := word_parts g
  show Ideal.ieee 8 23 (natBits g.val) = _
  unfold Ideal.ieee
  dsimp only
  generalize ((natBits g.val).extractLsb' 23 8).toNat = ex at h2 h3 ⊢
  generalize ((natBits g.val).extractLsb' 0 23).toNat = fr at h3 ⊢
  rw [show (8 + 23 : Nat) = 31 from rfl, h1, if_neg (by simpa using h2)]
  rcases h3 with ⟨e0, f0, g0⟩ | ⟨e0, e1, hm⟩
  · rw [if_pos e0, f0, g0]
    congr 1
    simp
  · rw [if_neg e0]
    congr 1
    rw [hm]
    obtain ⟨d, hd⟩ : ∃ d : Nat, ex + d = 150 := ⟨150 - ex, by omega⟩
    have hx : ((ex : Int) - (2 ^ (8 - 1) - 1) - (23 : Nat)) = -(d : Int) := by norm_num; omega
    rw [hx, show 150 - ex = d by omega, zpow_neg, zpow_natCast]
    push_cast
    field_simp

/-- The word of a small natural number, as a float and back. -/
theorem word_back (g : Fin 64) : Ideal.fptosi 32 (K (natBits g.val)) = BitVec.ofNat 32 g.val := by
  have hg := g.isLt
  rw [K_nat]
  show BitVec.ofInt 32 (max _ (min _ (if (0 : ℝ) ≤ (g.val : ℝ) then ⌊(g.val : ℝ)⌋ else ⌈(g.val : ℝ)⌉))) = _
  rw [if_pos (Nat.cast_nonneg _), Int.floor_natCast, min_eq_right (by norm_num; omega), max_eq_right (by norm_num), BitVec.ofInt_natCast]

/-- The one-hot matrix is one at the picked box's best ground-truth box and zero elsewhere. -/
theorem hot_apply (i : IVec S128x1 32) (asg : FVec Ideal S160x128 .f32) (k m w : Fin 64) (n : Fin 20480)
    (h : i (ix2 (n0 := 128) (n1 := 1) ⟨k.val, by have := k.isLt; omega⟩ 0) = BitVec.ofNat 32 n.val) (hw : flat asg n = K (natBits w.val)) :
    gtHot i asg (ix2 (n0 := 64) (n1 := 64) k m) = if w = m then 1 else 0 := by
  have hwl := w.isLt
  have hml := m.isLt
  unfold gtHot
  pointwise
  rw [half_apply, gath_apply asg i _ n h, hw]
  show Scalar.select (IntOp.cmpi .eq (Ideal.fptosi 32 (K (natBits w.val))) (BitVec.ofNat 32 m.val)) 1 0 = _
  rw [word_back, eq_W (by omega) (by omega), sel_bit]
  exact if_congr Fin.ext_iff.symm rfl rfl

/-- A one-hot row times the labels is the marked row of labels. -/
theorem lab_apply (a : FVec Ideal S64x64 .f32) (L : FVec Ideal S64x21 .f32) (k w : Fin 64) (c : Fin 21)
    (h : ∀ m, a (ix2 (n0 := 64) (n1 := 64) k m) = if w = m then 1 else 0) :
    labM a L (ix2 (n0 := 64) (n1 := 21) k c) = L (ix2 (n0 := 64) (n1 := 21) w c) := by
  unfold labM
  pointwise
  simp only [h, ite_mul, one_mul, zero_mul, Finset.sum_ite_eq, Finset.mem_univ, if_true]

/-- A one-hot row times the ground-truth boxes is the marked box. -/
theorem gbox_apply (a : FVec Ideal S64x64 .f32) (L : FVec Ideal S64x4 .f32) (k w : Fin 64) (c : Fin 4)
    (h : ∀ m, a (ix2 (n0 := 64) (n1 := 64) k m) = if w = m then 1 else 0) :
    gboxM a L (ix2 (n0 := 64) (n1 := 4) k c) = L (ix2 (n0 := 64) (n1 := 4) w c) := by
  unfold gboxM
  pointwise
  simp only [h, ite_mul, one_mul, zero_mul, Finset.sum_ite_eq, Finset.mem_univ, if_true]

/-- A background label is one in class 0 and zero elsewhere. -/
theorem bgLab_apply (k : Fin 64) (c : Fin 21) : bgLab (F := Ideal) (ix2 (n0 := 64) (n1 := 21) k c) = if c.val = 0 then 1 else 0 := by
  have hc := c.isLt
  unfold bgLab
  pointwise
  rw [show (0#32 : BitVec 32) = BitVec.ofNat 32 0 from rfl, eq_W (by omega) (by omega), sel_bit]

/-- The masked sum over a row is the entry of the marked column. -/
theorem laneCol_apply (c : Fin 4) (g : FVec Ideal S64x4 .f32) (k : Fin 64) :
    laneCol (BitVec.ofNat 32 c.val) g (ix2 (n0 := 64) (n1 := 1) k 0) = g (ix2 (n0 := 64) (n1 := 4) k c) := by
  have hc := c.isLt
  unfold laneCol lane4
  pointwise
  have e : ∀ x : Fin 4, Scalar.select (IntOp.cmpi .eq (BitVec.ofNat 32 x.val) (BitVec.ofNat 32 c.val)) (g (ix2 (n0 := 64) (n1 := 4) k x)) 0
      = if x = c then g (ix2 (n0 := 64) (n1 := 4) k x) else 0 := fun x => by
    have hx := x.isLt
    rw [eq_W (by omega) (by omega), sel_bit]
    exact if_congr Fin.ext_iff.symm rfl rfl
  simp only [e, Finset.sum_ite_eq', Finset.mem_univ, if_true]

/-- A box target is the transform of the picked box and its ground-truth box. -/
theorem box_apply (i : IVec S128x1 32) (p : Fin 4 → FVec Ideal S160x128 .f32) (g : FVec Ideal S64x4 .f32) (k : Fin 64) (c : Fin 4) (n : Fin 20480)
    (h : i (ix2 (n0 := 128) (n1 := 1) ⟨k.val, by have := k.isLt; omega⟩ 0) = BitVec.ofNat 32 n.val) :
    boxM i p g (ix2 (n0 := 64) (n1 := 4) k c) = shift (fun c => flat (p c) n) (fun c => g (ix2 (n0 := 64) (n1 := 4) k c)) c := by
  have hb : ∀ c, half (gath i (p c)) (ix2 (n0 := 64) (n1 := 1) k 0) = flat (p c) n := fun c => by
    rw [half_apply]; exact gath_apply (p c) i _ n h
  have hl := fun c => laneCol_apply c g k
  have h0 : laneCol 0#32 g (ix2 (n0 := 64) (n1 := 1) k 0) = _ := hl 0
  have h1 : laneCol 1#32 g (ix2 (n0 := 64) (n1 := 1) k 0) = _ := hl 1
  have h2 : laneCol 2#32 g (ix2 (n0 := 64) (n1 := 1) k 0) = _ := hl 2
  have h3 : laneCol 3#32 g (ix2 (n0 := 64) (n1 := 1) k 0) = _ := hl 3
  unfold boxM tgtM
  rw [join4h_apply]
  match c with
  | 0 =>
    show divf _ _ _ = _
    unfold mid ext kcol
    pointwise
    rw [h0, h2, hb 0, hb 2]
    rfl
  | 1 =>
    show divf _ _ _ = _
    unfold mid ext kcol
    pointwise
    rw [h1, h3, hb 1, hb 3]
    rfl
  | 2 =>
    show log _ _ = _
    unfold ext kcol
    pointwise
    rw [h0, h2, hb 0, hb 2]
    rfl
  | 3 =>
    show log _ _ = _
    unfold ext kcol
    pointwise
    rw [h1, h3, hb 1, hb 3]
    rfl

end Cert.KernelIdeal.Model

end
-- ==== Proof.RefTable.lean ====
/- The reference's table of overlap quotients read at an index, over the extended reals. -/
module

public import proofs.«01_k».proof.Proof.RefModel
public import proofs.«01_k».proof.Proof.Score
public import proofs.«01_k».proof.Proof.Words

@[expose] public section

noncomputable section

namespace Cert.ReferenceIdeal.Spec

open Idealize.ShloMosaic Idealize.SL.Sem Cert.ReferenceIdeal Cert.ReferenceIdeal.Facts₀ Cert.Score Cert.Pick Cert.Words

/-- The quotients of one box. -/
def row (x : FVec Ideal S20064x4 .f32) (g : FVec Ideal S64x4 .f32) (n : Fin 20064) (k : Fin 64) : EReal :=
  quo (fun c => x (ix2 (n0 := 20064) (n1 := 4) n c)) (fun c => g (ix2 (n0 := 64) (n1 := 4) k c))

/-- Every entry of the table is the overlap quotient of its two boxes. -/
theorem table_apply (x : FVec Ideal S20064x4 .f32) (g : FVec Ideal S64x4 .f32) (n : Fin 20064) (k : Fin 64) :
    table x g (ix2 (n0 := 20064) (n1 := 64) n k) = row x g n k := by
  unfold table inter over areaX areaG bcol gcol brow grow bk gk tk
  pointwise
  unfold row quo both seg area
  rw [K_one, K_zero]

end Cert.ReferenceIdeal.Spec

end
-- ==== Proof.RefScore.lean ====
/- The reference's arrays read at an index, over the extended reals: each box's greatest quotient and its scores. -/
module

public import proofs.«01_k».proof.Proof.RefModel
public import proofs.«01_k».proof.Proof.Score
public import proofs.«01_k».proof.Proof.Words
public import Idealize.ShloMosaic.Lib.Routing.OpsSet

@[expose] public section

noncomputable section

namespace Cert.ReferenceIdeal.Spec

open Idealize.ShloMosaic Idealize.SL.Sem Cert.ReferenceIdeal Cert.ReferenceIdeal.Facts₀ Cert.Score Cert.Pick Cert.Words

/-- The greatest quotient of a box. -/
theorem top_apply (q : FVec Ideal S20064x64 .f32) (n : Fin 20064) (f : Fin 64 → EReal) (hf : ∀ k, q (ix2 (n0 := 20064) (n1 := 64) n k) = f k) :
    top q (ix1 (n0 := 20064) n) = peak f := by
  unfold top
  pointwise
  simp only [hf]
  exact fold_max_K f (win f) (win_first f).1

/-- The foreground score of a box. -/
theorem fgS_apply (t : FVec Ideal S20064 .f32) (n : Fin 20064) : fgS t (ix1 (n0 := 20064) n) = scoreF (t (ix1 (n0 := 20064) n)) := by
  unfold fgS scoreF bk
  pointwise

/-- The background score of a box. -/
theorem bgS_apply (t : FVec Ideal S20064 .f32) (n : Fin 20064) : bgS t (ix1 (n0 := 20064) n) = scoreB (t (ix1 (n0 := 20064) n)) := by
  unfold bgS scoreB bk
  pointwise
  rw [and_bit, sel_bit]

end Cert.ReferenceIdeal.Spec

end
-- ==== Proof.RefBest.lean ====
/- The reference's arrays read at an index, over the extended reals: each box's best ground-truth box. -/
module

public import proofs.«01_k».proof.Proof.RefModel
public import proofs.«01_k».proof.Proof.Score
public import proofs.«01_k».proof.Proof.Words
public import Idealize.ShloMosaic.Lib.Routing.OpsSet

@[expose] public section

noncomputable section

namespace Cert.ReferenceIdeal.Spec

open Idealize.ShloMosaic Idealize.SL.Sem Cert.ReferenceIdeal Cert.ReferenceIdeal.Facts₀ Cert.Score Cert.Pick Cert.Words

/-! ## The first best ground-truth box -/

/-- The step of the argmax in plain terms: the greater value, and the first position among equals. -/
theorem red_eq (a b : EReal) (i j : BitVec 32) (P : Prop) [Decidable P] (hP : IntOp.cmpi .slt i j = BitVec.ofBool (decide P)) :
    reducer_argmax_f32_i32 (F := Ideal) (a, i) (b, j) = (if b < a then a else b, if b < a ∨ (a = b ∧ P) then i else j) := by
  have h1 : FloatOps.cmpf (F := Ideal) (φ := .f32) .ogt a b = BitVec.ofBool (decide (b < a)) := rfl
  have h2 : FloatOps.cmpf (F := Ideal) (φ := .f32) .une a a = BitVec.ofBool (decide (a ≠ a)) := rfl
  have h3 : FloatOps.cmpf (F := Ideal) (φ := .f32) .oeq a b = BitVec.ofBool (decide (a = b)) := rfl
  unfold reducer_argmax_f32_i32
  dsimp only
  rw [h1, h2, h3, hP, and_bit, or_bit, or_bit, sel_bit, sel_bit]
  simp only [ne_eq, not_true, or_false]

/-- One step of the search for the first best: the better of two candidates, the lower position among equals. -/
theorem red_step (f : Fin 64 → EReal) (k m : Fin 64) :
    ∃ w : Fin 64, (w = k ∨ w = m) ∧ (f k ≤ f w ∧ (f k = f w → w ≤ k)) ∧ (f m ≤ f w ∧ (f m = f w → w ≤ m)) ∧
      reducer_argmax_f32_i32 (F := Ideal) (f k, BitVec.ofNat 32 k.val) (f m, BitVec.ofNat 32 m.val) = (f w, BitVec.ofNat 32 w.val) := by
  have hk := k.isLt
  have hm := m.isLt
  have e := red_eq (f k) (f m) (BitVec.ofNat 32 k.val) (BitVec.ofNat 32 m.val) _ (slt_W (n := k.val) (m := m.val) (by omega) (by omega))
  rw [e]
  rcases lt_trichotomy (f m) (f k) with h | h | h
  · exact ⟨k, .inl rfl, ⟨le_refl _, fun _ => le_refl _⟩, ⟨h.le, fun e => absurd e h.ne⟩, by rw [if_pos h, if_pos (.inl h)]⟩
  · by_cases hlt : k.val < m.val
    · refine ⟨k, .inl rfl, ⟨le_refl _, fun _ => le_refl _⟩, ⟨h.le, fun _ => ?_⟩, ?_⟩
      · exact Fin.le_def.mpr (by omega)
      · rw [if_neg (by rw [h]; exact lt_irrefl _), if_pos (.inr ⟨h.symm, hlt⟩), h]
    · refine ⟨m, .inr rfl, ⟨h.symm.le, fun _ => Fin.le_def.mpr (by omega)⟩, ⟨le_refl _, fun _ => le_refl _⟩, ?_⟩
      rw [if_neg (by rw [h]; exact lt_irrefl _), if_neg (by rintro (e | e); exacts [lt_irrefl _ (h ▸ e), hlt e.2])]
  · refine ⟨m, .inr rfl, ⟨h.le, fun e => absurd e h.ne⟩, ⟨le_refl _, fun _ => le_refl _⟩, ?_⟩
    rw [if_neg (not_lt.mpr h.le), if_neg (by rintro (e | e); exacts [lt_irrefl _ (h.trans e), h.ne e.1])]

/-- The search over a list of candidates. -/
theorem red_fold (f : Fin 64 → EReal) : ∀ (L : List (Fin 64)) (k : Fin 64), ∃ w : Fin 64,
    (∀ m ∈ k :: L, f m ≤ f w ∧ (f m = f w → w ≤ m)) ∧
      L.foldl (fun r m => reducer_argmax_f32_i32 (F := Ideal) r (f m, BitVec.ofNat 32 m.val)) (f k, BitVec.ofNat 32 k.val) = (f w, BitVec.ofNat 32 w.val)
  | [], k => ⟨k, fun m hm => by rw [List.mem_singleton.mp hm]; exact ⟨le_refl _, fun _ => le_refl _⟩, rfl⟩
  | a :: L, k => by
    obtain ⟨w, hw, h1, h2, he⟩ := red_step f k a
    obtain ⟨z, hz, hf⟩ := red_fold f L w
    have hwz := hz w (List.mem_cons_self ..)
    refine ⟨z, fun m hm => ?_, by rw [List.foldl_cons, he]; exact hf⟩
    have trans : ∀ m, (f m ≤ f w ∧ (f m = f w → w ≤ m)) → f m ≤ f z ∧ (f m = f z → z ≤ m) := fun m h =>
      ⟨h.1.trans hwz.1, fun e => (hwz.2 (le_antisymm hwz.1 (e ▸ h.1))).trans (h.2 (le_antisymm h.1 (e ▸ hwz.1)))⟩
    rcases List.mem_cons.mp hm with rfl | hm
    · exact trans _ h1
    · rcases List.mem_cons.mp hm with rfl | hm
      · exact trans _ h2
      · exact hz m (List.mem_cons_of_mem _ hm)

/-- The first candidate replaces the initial one. -/
theorem red_start (x : EReal) (hx : 0 ≤ x) (i : BitVec 32) :
    reducer_argmax_f32_i32 (F := Ideal) (K 0xFF800000#32, 0#32) (x, i) = (x, i) := by
  have e := red_eq (K 0xFF800000#32) x 0#32 i (IntOp.cmpi .slt 0#32 i = 1#1) (by
    rcases BitVec.eq_zero_or_eq_one (IntOp.cmpi .slt 0#32 i) with h | h <;> rw [h] <;> decide)
  have hb : K 0xFF800000#32 < x := by rw [K_bot]; exact lt_of_lt_of_le (EReal.bot_lt_coe 0) hx
  rw [e, if_neg (not_lt.mpr hb.le), if_neg (by rintro (h | h); exacts [lt_irrefl _ (h.trans hb), hb.ne h.1])]

/-- The candidates of one box: its quotients with every ground-truth box, in some order of the table's positions. -/
theorem candidates {N : Nat} (e : Fin N ≃ S20064x64.Idx) (q : FVec Ideal S20064x64 .f32) (n : Fin 20064) (h : S20064x64.ReducesTo [1] S20064) :
    ∃ ks : List (Fin 64), (∀ k, k ∈ ks) ∧
      (((List.finRange N).filter fun i => h.drop (e i) = ix1 (n0 := 20064) n).map fun i => (q (e i), iotaInDim S20064x64 32 1 (e i)))
        = ks.map fun k => (q (ix2 (n0 := 20064) (n1 := 64) n k), BitVec.ofNat 32 k.val) := by
  let col : Fin N → Fin 64 := fun i => e i 1
  refine ⟨((List.finRange N).filter fun i => h.drop (e i) = ix1 (n0 := 20064) n).map col, fun k => ?_, ?_⟩
  · refine List.mem_map.mpr ⟨e.symm (ix2 (n0 := 20064) (n1 := 64) n k), ?_, ?_⟩
    · rw [List.mem_filter]
      refine ⟨List.mem_finRange _, decide_eq_true ?_⟩
      rw [Equiv.apply_symm_apply]
      funext a
      obtain rfl : a = 0 := Subsingleton.elim _ _
      exact Fin.ext rfl
    · show e (e.symm (ix2 (n0 := 20064) (n1 := 64) n k)) 1 = k
      rw [Equiv.apply_symm_apply]
      rfl
  · rw [List.map_map]
    refine List.map_congr_left fun i hi => ?_
    rw [List.mem_filter] at hi
    have hd := of_decide_eq_true hi.2
    have h0 : (e i 0).val = n.val := congrArg (fun y => (y 0).val) hd
    have hi2 : e i = ix2 (n0 := 20064) (n1 := 64) n (col i) := by
      funext a
      match a with
      | 0 => exact Fin.ext h0
      | 1 => rfl
    show (q (e i), BitVec.ofNat 32 (e i 1).val) = (q (ix2 (n0 := 20064) (n1 := 64) n (col i)), BitVec.ofNat 32 (col i).val)
    rw [← hi2]

/-- Each box's first best ground-truth box. -/
theorem best_apply (q : FVec Ideal S20064x64 .f32) (n : Fin 20064) (f : Fin 64 → EReal) (hf : ∀ k, q (ix2 (n0 := 20064) (n1 := 64) n k) = f k)
    (h0 : ∀ k, 0 ≤ f k) : best q (ix1 (n0 := 20064) n) = BitVec.ofNat 32 (win f).val := by
  obtain ⟨ks, hks, hm⟩ := candidates S20064x64.rowMajor.symm q n reducesTo_S20064x64_S20064_d1
  unfold best
  rw [Ideal.argReduce_eq_reduce2, Host.reduce2_eq_foldl_fiber]
  unfold Host.argReduceFiber
  rw [hm, List.foldl_map]
  simp only [hf]
  match ks, hks with
  | [], hks => exact absurd (hks 0) List.not_mem_nil
  | a :: T, hks =>
    rw [List.foldl_cons]
    have hs := red_start (f a) (h0 a) (BitVec.ofNat 32 a.val)
    obtain ⟨w, hw, he⟩ := red_fold f T a
    refine (congrArg Prod.snd ((congrArg (fun s => T.foldl (fun r m => reducer_argmax_f32_i32 (F := Ideal) r (f m, BitVec.ofNat 32 m.val)) s) hs).trans he)).trans ?_
    have : First f w := by
      refine ⟨fun m => (hw m (hks m)).1, fun m hm => lt_of_le_of_ne (hw m (hks m)).1 fun e => ?_⟩
      exact absurd ((hw m (hks m)).2 e) (not_le.mpr hm)
    rw [win_eq this]

end Cert.ReferenceIdeal.Spec

end
-- ==== Proof.RefRead.lean ====
/- The reference's arrays read at an index, over the extended reals: the kept positions and the looked-up rows. -/
module

public import proofs.«01_k».proof.Proof.RefModel
public import proofs.«01_k».proof.Proof.Score
public import proofs.«01_k».proof.Proof.Words
public import Idealize.ShloMosaic.Lib.Routing.OpsSet

@[expose] public section

noncomputable section

namespace Cert.ReferenceIdeal.Spec

open Idealize.ShloMosaic Idealize.SL.Sem Cert.ReferenceIdeal Cert.ReferenceIdeal.Facts₀ Cert.Score Cert.Pick Cert.Words

/-! ## The kept positions -/

/-- There are at least 64 boxes. -/
theorem h64 : 64 ≤ 20064 := by norm_num

/-- Positions sorted by their scores: place `J` holds the position that comes `J`-th. -/
theorem sort_at (s : FVec Ideal S20064 .f32) (idx : IVec S20064 32) (J : Fin 20064) :
    (Host.sort2 S20064 0 (fun l r => FloatOps.cmpfTotal (F := Ideal) CmpDirection.gt l.1 r.1) s idx).2 (ix1 (n0 := 20064) J)
      = idx (ix1 (n0 := 20064) (sortedFrom (fun k k' : Fin 20064 =>
          FloatOps.cmpfTotal (F := Ideal) CmpDirection.gt (s (ix1 (n0 := 20064) k)) (s (ix1 (n0 := 20064) k')) == 1#1) J)) := by
  have hal : ∀ i k : Fin 20064, (ix1 (n0 := 20064) i).along (s := S20064) (0 : Fin 1) k = ix1 (n0 := 20064) k := by
    intro i k; funext a; obtain rfl : a = 0 := Subsingleton.elim _ _; rfl
  have e : (Host.sort2 S20064 0 (fun l r => FloatOps.cmpfTotal (F := Ideal) CmpDirection.gt l.1 r.1) s idx).2 (ix1 (n0 := 20064) J)
      = idx ((ix1 (n0 := 20064) J).along (s := S20064) (0 : Fin 1) (sortedFrom (fun k k' : Fin 20064 =>
          FloatOps.cmpfTotal (F := Ideal) CmpDirection.gt (s ((ix1 (n0 := 20064) J).along (s := S20064) (0 : Fin 1) k))
            (s ((ix1 (n0 := 20064) J).along (s := S20064) (0 : Fin 1) k')) == 1#1) J)) := by
    unfold Host.sort2
    rw [dif_pos (by decide)]
    rfl
  refine (e.trans (congrArg idx (hal J _))).trans (congrArg (fun B => idx (ix1 (n0 := 20064) (sortedFrom B J))) ?_)
  funext k k'
  exact congrArg₂ (fun a b => FloatOps.cmpfTotal (F := Ideal) CmpDirection.gt (s a) (s b) == 1#1) (hal J k) (hal J k')

/-- The first 64 positions of the descending sort of the scores. -/
theorem first64_apply (s : FVec Ideal S20064 .f32) (j : Fin 64) :
    first64 s (ix1 (n0 := 64) j) = BitVec.ofNat 32 (sortedFrom (gtB fun n : Fin 20064 => s (ix1 (n0 := 20064) n)) (j.castLE h64)).val := by
  have hB : (fun k k' : Fin 20064 => FloatOps.cmpfTotal (F := Ideal) CmpDirection.gt (s (ix1 (n0 := 20064) k)) (s (ix1 (n0 := 20064) k')) == 1#1)
      = gtB fun n : Fin 20064 => s (ix1 (n0 := 20064) n) := by
    funext k k'
    exact bit_set (s (ix1 (n0 := 20064) k') < s (ix1 (n0 := 20064) k))
  rw [← hB]
  refine Eq.trans ?_ (sort_at s (iotaInDim S20064 32 0) (j.castLE h64))
  unfold first64 Host.topK
  dsimp only
  pointwise
  rfl

/-! ## Looking up rows -/

/-- Two ways to write an index with two components. -/
theorem vix2 {a b : Nat} (i : Fin a) (j : Fin b) : ValueIdx.ix2 i j = ix2 (n0 := a) (n1 := b) i j := by
  funext d
  match d with
  | 0 => rfl
  | 1 => rfl
/-- Two ways to write an index with one component. -/
theorem vix1 {a : Nat} (i : Fin a) : ValueIdx.ix1 i = ix1 (n0 := a) i := by
  funext d
  match d with
  | 0 => rfl

/-- A lookup of rows whose position is given reads that row. -/
theorem gather_box (x : FVec Ideal S20064x4 .f32) (i : IVec S128x1 32) (k : Fin 128) (c : Fin 4) (n : Fin 20064)
    (h : i (ix2 (n0 := 128) (n1 := 1) k 0) = BitVec.ofNat 32 n.val) :
    Host.gather gather_S20064x4_S128x1_S128x4_1_0_n_n_0_1_14 x i (ix2 (n0 := 128) (n1 := 4) k c) = x (ix2 (n0 := 20064) (n1 := 4) n c) := by
  have e := Routing.gather_row gather_S20064x4_S128x1_S128x4_1_0_n_n_0_1_14 rfl rfl rfl rfl rfl x i k c n (by rw [vix2]; exact h) (by decide)
  rw [vix2, vix2] at e
  exact e
/-- Looking up rows of the boxes' labels. -/
theorem gather_lab (x : FVec Ideal S20064x21 .f32) (i : IVec S128x1 32) (k : Fin 128) (c : Fin 21) (n : Fin 20064)
    (h : i (ix2 (n0 := 128) (n1 := 1) k 0) = BitVec.ofNat 32 n.val) :
    Host.gather gather_S20064x21_S128x1_S128x21_1_0_n_n_0_1_121 x i (ix2 (n0 := 128) (n1 := 21) k c) = x (ix2 (n0 := 20064) (n1 := 21) n c) := by
  have e := Routing.gather_row gather_S20064x21_S128x1_S128x21_1_0_n_n_0_1_121 rfl rfl rfl rfl rfl x i k c n (by rw [vix2]; exact h) (by decide)
  rw [vix2, vix2] at e
  exact e
/-- Looking up rows of the ground-truth boxes. -/
theorem gather_gt (x : FVec Ideal S64x4 .f32) (i : IVec S128x1 32) (k : Fin 128) (c : Fin 4) (n : Fin 64)
    (h : i (ix2 (n0 := 128) (n1 := 1) k 0) = BitVec.ofNat 32 n.val) :
    Host.gather gather_S64x4_S128x1_S128x4_1_0_n_n_0_1_14 x i (ix2 (n0 := 128) (n1 := 4) k c) = x (ix2 (n0 := 64) (n1 := 4) n c) := by
  have e := Routing.gather_row gather_S64x4_S128x1_S128x4_1_0_n_n_0_1_14 rfl rfl rfl rfl rfl x i k c n (by rw [vix2]; exact h) (by decide)
  rw [vix2, vix2] at e
  exact e
/-- Looking up rows of the labels for every box. -/
theorem gather_labs (x : FVec Ideal S64x21 .f32) (i : IVec S20064x1 32) (k : Fin 20064) (c : Fin 21) (n : Fin 64)
    (h : i (ix2 (n0 := 20064) (n1 := 1) k 0) = BitVec.ofNat 32 n.val) :
    Host.gather gather_S64x21_S20064x1_S20064x21_1_0_n_n_0_1_121 x i (ix2 (n0 := 20064) (n1 := 21) k c) = x (ix2 (n0 := 64) (n1 := 21) n c) := by
  have e := Routing.gather_row gather_S64x21_S20064x1_S20064x21_1_0_n_n_0_1_121 rfl rfl rfl rfl rfl x i k c n (by rw [vix2]; exact h) (by decide)
  rw [vix2, vix2] at e
  exact e
/-- Looking up entries of the best positions. -/
theorem gather_best (x : IVec S20064 32) (i : IVec S128x1 32) (k : Fin 128) (n : Fin 20064)
    (h : i (ix2 (n0 := 128) (n1 := 1) k 0) = BitVec.ofNat 32 n.val) :
    Host.gather gather_S20064_S128x1_S128_n_0_n_n_0_1_1 x i (ix1 (n0 := 128) k) = x (ix1 (n0 := 20064) n) := by
  have e := Routing.gather_take1 gather_S20064_S128x1_S128_n_0_n_n_0_1_1 rfl rfl rfl rfl x i k n (by rw [vix2]; exact h) (by decide)
  rw [vix1, vix1] at e
  exact e

/-- A position in range is its own wrapped position. -/
theorem wrap_apply (b : BitVec 32) (i : IVec S128 32) (k : Fin 128) (n : Nat) (hn : n < 2 ^ 31) (h : i (ix1 (n0 := 128) k) = BitVec.ofNat 32 n) :
    wrap b i (ix2 (n0 := 128) (n1 := 1) k 0) = BitVec.ofNat 32 n := by
  unfold wrap ik
  pointwise
  rw [h, show (0#32 : BitVec 32) = BitVec.ofNat 32 0 from rfl, slt_W hn (by omega), sel_bit, if_neg (Nat.not_lt_zero n)]
/-- A position that is not negative is kept as it is, for every box. -/
theorem wrapAll_apply (i : IVec S20064 32) (k : Fin 20064) (n : Nat) (hn : n < 2 ^ 31) (h : i (ix1 (n0 := 20064) k) = BitVec.ofNat 32 n) :
    wrapAll i (ix2 (n0 := 20064) (n1 := 1) k 0) = BitVec.ofNat 32 n := by
  unfold wrapAll
  pointwise
  rw [h, show (0#32 : BitVec 32) = BitVec.ofNat 32 0 from rfl, slt_W hn (by omega), sel_bit, if_neg (Nat.not_lt_zero n)]
/-- The one index of a single entry. -/
theorem univ_one : (Finset.univ : Finset (Fin 1)) = {0} := rfl
/-- Such a position is within range. -/
theorem within_apply (b : Nat) (hb : b < 2 ^ 31) (w : IVec S128x1 32) (k : Fin 128) (n : Nat) (hn : n ≤ b) (h : w (ix2 (n0 := 128) (n1 := 1) k 0) = BitVec.ofNat 32 n) :
    within (BitVec.ofNat 32 b) w (ix1 (n0 := 128) k) = 1#1 := by
  unfold within
  pointwise
  rw [univ_one, Finset.fold_singleton, h, show (0#32 : BitVec 32) = BitVec.ofNat 32 0 from rfl, sge_W (by omega) (by omega), sle_W (by omega) hb, and_bit, decide_eq_true ⟨Nat.zero_le n, hn⟩]
  decide
/-- Such a position is within range, for every box. -/
theorem withinAll_apply (w : IVec S20064x1 32) (k : Fin 20064) (n : Nat) (hn : n ≤ 63) (h : w (ix2 (n0 := 20064) (n1 := 1) k 0) = BitVec.ofNat 32 n) :
    withinAll w (ix1 (n0 := 20064) k) = 1#1 := by
  unfold withinAll
  pointwise
  rw [univ_one, Finset.fold_singleton, h, show (0#32 : BitVec 32) = BitVec.ofNat 32 0 from rfl, show (63#32 : BitVec 32) = BitVec.ofNat 32 63 from rfl, sge_W (by omega) (by omega), sle_W (by omega) (by omega), and_bit, decide_eq_true ⟨Nat.zero_le n, hn⟩]
  decide

/-- A kept box is the box at the kept position. -/
theorem takeBox_apply (x : FVec Ideal S20064x4 .f32) (i : IVec S128 32) (k : Fin 128) (c : Fin 4) (n : Fin 20064)
    (h : i (ix1 (n0 := 128) k) = BitVec.ofNat 32 n.val) : takeBox x i (ix2 (n0 := 128) (n1 := 4) k c) = x (ix2 (n0 := 20064) (n1 := 4) n c) := by
  have hn := n.isLt
  have hw := wrap_apply 20064#32 i k n.val (by omega) h
  unfold takeBox
  pointwise
  rw [gather_box x _ k c n hw, within_apply 20063 (by omega) _ k n.val (by omega) hw]
  rfl
/-- A kept label row is the one at the kept position. -/
theorem takeLab_apply (x : FVec Ideal S20064x21 .f32) (i : IVec S128 32) (k : Fin 128) (c : Fin 21) (n : Fin 20064)
    (h : i (ix1 (n0 := 128) k) = BitVec.ofNat 32 n.val) : takeLab x i (ix2 (n0 := 128) (n1 := 21) k c) = x (ix2 (n0 := 20064) (n1 := 21) n c) := by
  have hn := n.isLt
  have hw := wrap_apply 20064#32 i k n.val (by omega) h
  unfold takeLab
  pointwise
  rw [gather_lab x _ k c n hw, within_apply 20063 (by omega) _ k n.val (by omega) hw]
  rfl
/-- A kept best position is the one at the kept position. -/
theorem takeBest_apply (x : IVec S20064 32) (i : IVec S128 32) (k : Fin 128) (n : Fin 20064)
    (h : i (ix1 (n0 := 128) k) = BitVec.ofNat 32 n.val) : takeBest x i (ix1 (n0 := 128) k) = x (ix1 (n0 := 20064) n) := by
  have hn := n.isLt
  have hw := wrap_apply 20064#32 i k n.val (by omega) h
  unfold takeBest
  pointwise
  rw [gather_best x _ k n hw, within_apply 20063 (by omega) _ k n.val (by omega) hw]
  rfl
/-- A kept ground-truth box is the one at the given position. -/
theorem takeGt_apply (x : FVec Ideal S64x4 .f32) (i : IVec S128 32) (k : Fin 128) (c : Fin 4) (n : Fin 64)
    (h : i (ix1 (n0 := 128) k) = BitVec.ofNat 32 n.val) : takeGt x i (ix2 (n0 := 128) (n1 := 4) k c) = x (ix2 (n0 := 64) (n1 := 4) n c) := by
  have hn := n.isLt
  have hw := wrap_apply 64#32 i k n.val (by omega) h
  unfold takeGt
  pointwise
  rw [gather_gt x _ k c n hw, within_apply 63 (by omega) _ k n.val (by omega) hw]
  rfl
/-- A box's label is the label of its best ground-truth box. -/
theorem labAll_apply (l : FVec Ideal S64x21 .f32) (i : IVec S20064 32) (k : Fin 20064) (c : Fin 21) (n : Fin 64)
    (h : i (ix1 (n0 := 20064) k) = BitVec.ofNat 32 n.val) : labAll l i (ix2 (n0 := 20064) (n1 := 21) k c) = l (ix2 (n0 := 64) (n1 := 21) n c) := by
  have hn := n.isLt
  have hw := wrapAll_apply i k n.val (by omega) h
  unfold labAll
  pointwise
  rw [gather_labs l _ k c n hw, withinAll_apply _ k n.val (by omega) hw]
  rfl

/-! ## The results -/

/-- The first 64 kept positions come from the foreground scores. -/
theorem keep_low (t : FVec Ideal S20064 .f32) (k : Fin 128) (h : k.val < 64) :
    keep t (ix1 (n0 := 128) k) = first64 (fgS t) (ix1 (n0 := 64) ⟨k.val, h⟩) := by
  unfold keep
  pointwise
  rw [dif_pos h]
/-- The last 64 kept positions come from the background scores. -/
theorem keep_high (t : FVec Ideal S20064 .f32) (k : Fin 128) (h : ¬ k.val < 64) :
    keep t (ix1 (n0 := 128) k) = first64 (bgS t) (ix1 (n0 := 64) ⟨k.val - 64, by have := k.isLt; omega⟩) := by
  unfold keep
  pointwise
  rw [dif_neg h]
/-- The labels: the kept ones in the first 64 rows, class 0 in the others. -/
theorem labOut_apply (x : FVec Ideal S128x21 .f32) (k : Fin 128) (c : Fin 21) :
    labOut x (ix2 (n0 := 128) (n1 := 21) k c) = if k.val < 64 then x (ix2 (n0 := 128) (n1 := 21) k c) else if c.val = 0 then 1 else 0 := by
  have hk := k.isLt
  have hc := c.isLt
  unfold labOut isFgC isFg ik hot0
  pointwise
  rw [show (64#32 : BitVec 32) = BitVec.ofNat 32 64 from rfl, show (0#32 : BitVec 32) = BitVec.ofNat 32 0 from rfl, slt_W (by omega) (by omega), eq_W (by omega) (by omega), sel_bit]
  refine if_congr Iff.rfl rfl ?_
  by_cases h : c.val = 0
  · rw [if_pos h, h]
    show ((1 : ℕ) : EReal) = 1
    exact Nat.cast_one
  · rw [if_neg h, decide_eq_false (fun e => h e.symm)]
    show ((0 : ℕ) : EReal) = 0
    exact Nat.cast_zero
/-- The targets: the transform in the first 64 rows, zero in the others. -/
theorem tgtOut_apply (x : FVec Ideal S128x4 .f32) (k : Fin 128) (c : Fin 4) :
    tgtOut x (ix2 (n0 := 128) (n1 := 4) k c) = if k.val < 64 then x (ix2 (n0 := 128) (n1 := 4) k c) else 0 := by
  have hk := k.isLt
  unfold tgtOut isFgC isFg ik
  pointwise
  rw [show (64#32 : BitVec 32) = BitVec.ofNat 32 64 from rfl, slt_W (by omega) (by omega), sel_bit]
/-- The transform of a row is that of its two boxes. -/
theorem transform_apply (x g : FVec Ideal S128x4 .f32) (k : Fin 128) (c : Fin 4) :
    transform x g (ix2 (n0 := 128) (n1 := 4) k c) = shift (fun c => x (ix2 (n0 := 128) (n1 := 4) k c)) (fun c => g (ix2 (n0 := 128) (n1 := 4) k c)) c := by
  unfold transform centre extent kcol kk up
  dsimp only
  pointwise
  rfl
/-- The boxes are the proposals followed by the ground-truth boxes. -/
theorem boxes_apply (p : FVec Ideal S1x20000x4 .f32) (g : FVec Ideal S1x64x4 .f32) (n : Fin 20064) (c : Fin 4) :
    boxes p g (ix2 (n0 := 20064) (n1 := 4) n c) = if h : n.val < 20000 then p (ix3 (n0 := 1) (n1 := 20000) (n2 := 4) 0 ⟨n.val, h⟩ c)
      else g (ix3 (n0 := 1) (n1 := 64) (n2 := 4) 0 ⟨n.val - 20000, by have := n.isLt; omega⟩ c) := by
  unfold boxes
  pointwise

end Cert.ReferenceIdeal.Spec

end
-- ==== Proof.Bridge.lean ====
/- The kernel's three results are the reference's: both keep the same positions, and read the same entries there. -/
module

public import proofs.«01_k».proof.Proof.KernelOut
public import proofs.«01_k».proof.Proof.KernelRun
public import proofs.«01_k».proof.Proof.RefTable
public import proofs.«01_k».proof.Proof.RefScore
public import proofs.«01_k».proof.Proof.RefBest
public import proofs.«01_k».proof.Proof.RefRead

@[expose] public section

noncomputable section

namespace Cert.Bridge

open Idealize.ShloMosaic Idealize.SL.Sem Cert.Score Cert.Pick Cert.Words Cert.KernelIdeal.Model Cert.ReferenceIdeal.Spec
open Cert.KernelIdeal (S1x20000x4 S1x64x4 S1x64x21 S4x160x128 S160x128 S64x4 S64x21 S128x4 S128x21 S1x128x4 S1x128x21)

variable (p : FVec Ideal S1x20000x4 .f32) (g : FVec Ideal S1x64x4 .f32) (l : FVec Ideal S1x64x21 .f32)

/-- The coordinate planes hold the box at each position below 20064. -/
theorem planes_apply (c : Fin 4) (r : Fin 160) (b : Fin 128) (n : Fin 20064) (h : n.val = 128 * r.val + b.val) :
    planesOf p g (ix3 (n0 := 4) (n1 := 160) (n2 := 128) c r b) = boxes p g (ix2 (n0 := 20064) (n1 := 4) n c) := by
  rw [boxes_apply]
  unfold planesOf
  pointwise
  obtain ⟨n, hn⟩ := n
  obtain rfl : n = r.val * 128 + b.val := by have : n = 128 * r.val + b.val := h; omega
  exact dif_pos (c := r.val * 128 + b.val < 20064) hn

/-- Both programs read the same ground-truth boxes. -/
theorem gts_eq : gtsOf g = gts g := rfl
/-- Both programs read the same labels. -/
theorem labs_eq : labsOf l = labs l := rfl

/-- The quotients of the box at a position. -/
theorem qs_eq (r : Fin 160) (b : Fin 128) (n : Fin 20064) (h : n.val = 128 * r.val + b.val) :
    qs (gtsOf g) (planesOf p g) r b = row (boxes p g) (gts g) n := by
  funext k
  unfold qs row
  rw [show (fun c => planesOf p g (ix3 (n0 := 4) (n1 := 160) (n2 := 128) c r b)) = fun c => boxes p g (ix2 (n0 := 20064) (n1 := 4) n c) from
    funext fun c => planes_apply p g c r b n h]
  rfl

/-- The foreground scores of the boxes. -/
def sF (n : Fin 20064) : EReal := scoreF (peak (row (boxes p g) (gts g) n))
/-- The background scores of the boxes. -/
def sB (n : Fin 20064) : EReal := scoreB (peak (row (boxes p g) (gts g) n))

/-- The greatest quotient of a box is not negative. -/
theorem peak_nonneg (n : Fin 20064) : 0 ≤ peak (row (boxes p g) (gts g) n) := quo_nonneg _ _
/-- A foreground score lies above the value of a picked entry. -/
theorem sF_gt (n : Fin 20064) : K 0xC0000000#32 < sF p g n := scoreF_gt (peak_nonneg p g n)
/-- A background score lies above the value of a picked entry. -/
theorem sB_gt (n : Fin 20064) : K 0xC0000000#32 < sB p g n := scoreB_gt (peak_nonneg p g n)

/-- A box's position among the padded ones. -/
def up (n : Fin 20064) : Fin 20480 := ⟨n.val, by have := n.isLt; omega⟩

/-- The kernel's foreground block holds the boxes' foreground scores, and the low value in the padding. -/
theorem flat_fg (i : Fin 20480) : flat (fgK (gtsOf g) (planesOf p g)) i = if h : i.val < 20064 then sF p g ⟨i.val, h⟩ else K 0xC0000000#32 := by
  unfold flat
  rw [fgK_apply]
  by_cases h : i.val < 20064
  · rw [dif_pos h, if_pos (by show 128 * (i.val / 128) + i.val % 128 < 20064; rw [Nat.div_add_mod]; exact h)]
    unfold sF
    rw [qs_eq p g _ _ ⟨i.val, h⟩ (Nat.div_add_mod _ _).symm]
  · rw [dif_neg h, if_neg (by show ¬ 128 * (i.val / 128) + i.val % 128 < 20064; rw [Nat.div_add_mod]; exact h)]

/-- The kernel's background block holds the boxes' background scores, and the low value in the padding. -/
theorem flat_bg (i : Fin 20480) : flat (bgK (gtsOf g) (planesOf p g)) i = if h : i.val < 20064 then sB p g ⟨i.val, h⟩ else K 0xC0000000#32 := by
  unfold flat
  rw [bgK_apply]
  by_cases h : i.val < 20064
  · rw [dif_pos h, if_pos (by show 128 * (i.val / 128) + i.val % 128 < 20064; rw [Nat.div_add_mod]; exact h)]
    unfold sB
    rw [qs_eq p g _ _ ⟨i.val, h⟩ (Nat.div_add_mod _ _).symm]
  · rw [dif_neg h, if_neg (by show ¬ 128 * (i.val / 128) + i.val % 128 < 20064; rw [Nat.div_add_mod]; exact h)]

/-- A coordinate plane read at a box's position is that coordinate of the box. -/
theorem flat_plane (c : Fin 4) (n : Fin 20064) : flat (planeK (planesOf p g) c) (up n) = boxes p g (ix2 (n0 := 20064) (n1 := 4) n c) :=
  planes_apply p g c _ _ n (Nat.div_add_mod _ _).symm

/-- The kernel's position block holds each box's first best ground-truth box, as a float. -/
theorem flat_asg (n : Fin 20064) : flat (asgK (gtsOf g) (planesOf p g)) (up n) = K (natBits (win (row (boxes p g) (gts g) n)).val) := by
  unfold flat
  rw [asgK_apply, qs_eq p g _ _ n (Nat.div_add_mod _ _).symm]

/-- The kept positions: the 64 greatest foreground scores, then the 64 greatest background scores. -/
def pos (k : Fin 128) : Fin 20064 :=
  if h : k.val < 64 then sortedFrom (Pick.gtB (sF p g)) ((⟨k.val, h⟩ : Fin 64).castLE Cert.KernelIdeal.Model.h64)
  else sortedFrom (Pick.gtB (sB p g)) ((⟨k.val - 64, by have := k.isLt; omega⟩ : Fin 64).castLE Cert.KernelIdeal.Model.h64)

/-- The kernel picks those positions. -/
theorem idx_apply (k : Fin 128) : idxK (gtsOf g) (planesOf p g) (ix2 (n0 := 128) (n1 := 1) k 0) = BitVec.ofNat 32 (pos p g k).val := by
  unfold idxK picks pos
  by_cases h : k.val < 64
  · rw [dif_pos h]
    refine (if_pos h).trans ?_
    exact pick_sorted _ (sF p g) (sF_gt p g) (flat_fg p g) ⟨k.val, h⟩
  · rw [dif_neg h]
    refine (if_neg h).trans ?_
    exact pick_sorted _ (sB p g) (sB_gt p g) (flat_bg p g) ⟨k.val - 64, by have := k.isLt; omega⟩

/-- The reference's maximum over a row is the greatest quotient. -/
theorem top_row (n : Fin 20064) : top (table (boxes p g) (gts g)) (ix1 (n0 := 20064) n) = peak (row (boxes p g) (gts g) n) :=
  top_apply _ n _ fun k => table_apply _ _ n k
/-- The reference's argmax over a row is the first best ground-truth box. -/
theorem best_row (n : Fin 20064) : best (table (boxes p g) (gts g)) (ix1 (n0 := 20064) n) = BitVec.ofNat 32 (win (row (boxes p g) (gts g) n)).val :=
  best_apply _ n _ (fun k => table_apply _ _ n k) fun k => quo_nonneg _ _

/-- The reference keeps those positions. -/
theorem keep_apply (k : Fin 128) : keep (top (table (boxes p g) (gts g))) (ix1 (n0 := 128) k) = BitVec.ofNat 32 (pos p g k).val := by
  unfold pos
  by_cases h : k.val < 64
  · rw [keep_low _ k h, dif_pos h, first64_apply]
    have e : (fun n : Fin 20064 => fgS (top (table (boxes p g) (gts g))) (ix1 (n0 := 20064) n)) = sF p g := by
      funext n; rw [fgS_apply, top_row]; rfl
    rw [e]
  · rw [keep_high _ k h, dif_neg h, first64_apply]
    have e : (fun n : Fin 20064 => bgS (top (table (boxes p g) (gts g))) (ix1 (n0 := 20064) n)) = sB p g := by
      funext n; rw [bgS_apply, top_row]; rfl
    rw [e]

/-- The kept boxes agree. -/
theorem rois_eq : roisK (gtsOf g) (planesOf p g) = rois p g := by
  funext y
  obtain ⟨k, c, rfl⟩ : ∃ (k : Fin 128) (c : Fin 4), y = ix2 (n0 := 128) (n1 := 4) k c := ⟨y 0, y 1, eq_ix2 y⟩
  unfold roisK rois
  rw [rois_apply _ _ k c (up (pos p g k)) (idx_apply p g k), flat_plane]
  exact (takeBox_apply _ _ k c (pos p g k) (keep_apply p g k)).symm

/-- A row of the kernel's one-hot matrix marks the best ground-truth box of the kept box. -/
theorem hot_row (k m : Fin 64) : hotK (gtsOf g) (planesOf p g) (ix2 (n0 := 64) (n1 := 64) k m)
    = if win (row (boxes p g) (gts g) (pos p g ⟨k.val, by have := k.isLt; omega⟩)) = m then 1 else 0 :=
  hot_apply _ _ k m _ (up (pos p g ⟨k.val, by have := k.isLt; omega⟩)) (idx_apply p g _) (flat_asg p g _)

/-- The kept labels agree. -/
theorem labels_eq : labK (gtsOf g) (planesOf p g) (labsOf l) = labels p g l := by
  funext y
  obtain ⟨k, c, rfl⟩ : ∃ (k : Fin 128) (c : Fin 21), y = ix2 (n0 := 128) (n1 := 21) k c := ⟨y 0, y 1, eq_ix2 y⟩
  unfold labK labels
  rw [labOut_apply]
  by_cases h : k.val < 64
  · refine (dif_pos (c := (ix2 (n0 := 128) (n1 := 21) k c 0).val < 64) h).trans ?_
    rw [if_pos h, takeLab_apply _ _ k c (pos p g k) (keep_apply p g k), labAll_apply _ _ (pos p g k) c _ (best_row p g _)]
    exact lab_apply _ _ ⟨k.val, h⟩ _ c (hot_row p g ⟨k.val, h⟩)
  · refine (dif_neg (c := (ix2 (n0 := 128) (n1 := 21) k c 0).val < 64) h).trans ?_
    rw [if_neg h]
    exact bgLab_apply ⟨k.val - 64, _⟩ c

/-- The kept targets agree. -/
theorem targets_eq : tgtK (gtsOf g) (planesOf p g) (gtsOf g) = targets p g := by
  funext y
  obtain ⟨k, c, rfl⟩ : ∃ (k : Fin 128) (c : Fin 4), y = ix2 (n0 := 128) (n1 := 4) k c := ⟨y 0, y 1, eq_ix2 y⟩
  unfold tgtK targets
  rw [tgtOut_apply]
  by_cases h : k.val < 64
  · refine (dif_pos (c := (ix2 (n0 := 128) (n1 := 4) k c 0).val < 64) h).trans ?_
    rw [if_pos h, transform_apply]
    refine (box_apply _ _ _ ⟨k.val, h⟩ c (up (pos p g k)) (idx_apply p g k)).trans ?_
    refine congrArg₂ (fun b w => shift b w c) (funext fun d => ?_) (funext fun d => ?_)
    · rw [flat_plane]
      exact (takeBox_apply _ _ k d (pos p g k) (keep_apply p g k)).symm
    · rw [gbox_apply _ _ ⟨k.val, h⟩ _ d (hot_row p g ⟨k.val, h⟩)]
      refine (takeGt_apply _ _ k d _ ?_).symm
      rw [takeBest_apply _ _ k (pos p g k) (keep_apply p g k), best_row]
  · refine (dif_neg (c := (ix2 (n0 := 128) (n1 := 4) k c 0).val < 64) h).trans ?_
    rw [if_neg h]
    exact K_zero

/-- The rois are equal. -/
theorem out0_eq : Cert.KernelIdeal.Model.out0 (F := Ideal) p g = Cert.ReferenceIdeal.Spec.out0 (F := Ideal) p g := by
  unfold Cert.KernelIdeal.Model.out0 Cert.ReferenceIdeal.Spec.out0
  rw [rois_eq]
/-- The labels are equal. -/
theorem out1_eq : Cert.KernelIdeal.Model.out1 (F := Ideal) p g l = Cert.ReferenceIdeal.Spec.out1 (F := Ideal) p g l := by
  unfold Cert.KernelIdeal.Model.out1 Cert.ReferenceIdeal.Spec.out1
  rw [labels_eq]
/-- The box targets are equal. -/
theorem out2_eq : Cert.KernelIdeal.Model.out2 (F := Ideal) p g = Cert.ReferenceIdeal.Spec.out2 (F := Ideal) p g := by
  unfold Cert.KernelIdeal.Model.out2 Cert.ReferenceIdeal.Spec.out2
  rw [targets_eq]

end Cert.Bridge

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.ReferenceFrame
public import proofs.«01_k».proof.Proof.KernelRun
public import proofs.«01_k».proof.Proof.RefRun
public import proofs.«01_k».proof.Proof.Bridge
public import Idealize.ShloMosaic.Lib.Claim

@[expose] public section

noncomputable section

namespace Cert.Proof

open Idealize.ShloMosaic Idealize.SL.Sem

/-- From memories that agree on the three arguments, the kernel and the reference end with equal rois, labels and
    box targets, and leave their arguments as they were. -/
theorem equal_results [Cert.KernelIdeal.Facts] [Cert.ReferenceIdeal.Facts] : Cert.algebraic_KernelIdeal_ReferenceIdeal := by
  intro m g m' g' _ hagree
  refine ⟨fun c => Cert.KernelIdeal.Model.out0 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Model.out1 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Model.out2 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact θ_run_mono (θ_run_and (Cert.KernelIdeal.Model.values m g) (Cert.KernelIdeal.Gen.unchanged m g))
      fun r h c => ⟨(h.1 c).1, (h.1 c).2.1, (h.1 c).2.2, h.2 c⟩
  · refine θ_run_mono (Cert.ReferenceIdeal.Host.values m' g') fun r h c => ?_
    obtain ⟨a0, a1, a2⟩ := hagree c
    obtain ⟨r0, r1, r2, u⟩ := h c
    rw [a0, a1] at r0 r2
    rw [a0, a1, a2] at r1
    exact ⟨r0.trans (Cert.Bridge.out0_eq _ _).symm, r1.trans (Cert.Bridge.out1_eq _ _ _).symm, r2.trans (Cert.Bridge.out2_eq _ _).symm, u⟩

/-- The whole claim. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Host.frame m ρ,
  trivial, equal_results⟩

end Cert.Proof

end
